-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 8192]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x256 : Shape := ⟨2, ![4096, 256]⟩
abbrev S3x128x4096 : Shape := ⟨3, ![3, 128, 4096]⟩
abbrev S3 : Shape := ⟨1, ![3]⟩
abbrev S_ : Shape := ⟨0, ![]⟩
abbrev S1 : Shape := ⟨1, ![1]⟩
abbrev S1x128x4096 : Shape := ⟨3, ![1, 128, 4096]⟩
abbrev S128x256 : Shape := ⟨2, ![128, 256]⟩

abbrev nBuf : Space → Nat
  | .hbm => 3
  | .vmem => 5
  | .smem => 0
  | _ => 0

abbrev bufTy : (tb : Table) → Fin (tcTables nBuf tb) → BufTy
  | .hbm, ⟨0, _⟩ => ⟨S128x4096, .f32⟩
  | .hbm, ⟨1, _⟩ => ⟨S4096x256, .f32⟩
  | .hbm, ⟨2, _⟩ => ⟨S4096x256, .f32⟩
  | .local _ .vmem, ⟨0, _⟩ => ⟨S128x4096, .f32⟩
  | .local _ .vmem, ⟨1, _⟩ => ⟨S4096x256, .f32⟩
  | .local _ .vmem, ⟨2, _⟩ => ⟨S4096x256, .f32⟩
  | .local _ .vmem, ⟨3, _⟩ => ⟨S3x128x4096, .f32⟩
  | .local _ .vmem, ⟨4, _⟩ => ⟨S3x128x4096, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 3 15 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_4 : BitVec 32 := 1#32
  let v8 : BitVec 32 := Scalar.muli v4 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_6 : BitVec 32 := 1#32
  let v10 : BitVec 32 := Scalar.muli v6 c1_i32_6
  let v11 : BitVec 32 := Scalar.addi c0_i32_7 v10
  v11.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_11 : BitVec 32 := 1#32
  let v12 : BitVec 32 := Scalar.muli v6 c1_i32_11
  let v13 : BitVec 32 := Scalar.addi c0_i32_12 v12
  v13.toNat
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_18 : BitVec 32 := 1#32
  let v20 : BitVec 32 := Scalar.muli v4 c1_i32_18
  let v21 : BitVec 32 := Scalar.addi c0_i32_19 v20
  v21.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v33 : BitVec 32 := Scalar.muli v2 c128_i32
  let v34 : Index := Scalar.indexCast v33
  let c0_25 : Index := 0#32
  ![v34.toNat, 0]
def k0_dev5 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_40 : BitVec 32 := 1#32
  let v44 : BitVec 32 := Scalar.muli v6 c1_i32_40
  let v45 : BitVec 32 := Scalar.addi c0_i32_41 v44
  v45.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_60 : BitVec 32 := 1#32
  let v62 : BitVec 32 := Scalar.muli v4 c1_i32_60
  let v63 : BitVec 32 := Scalar.addi c0_i32_61 v62
  v63.toNat
def k0_off2 (d0 : Dev nD) (c31_i32_78 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v80 : BitVec 32 := Scalar.addi v2 c31_i32_78
  let c32_i32_79 : BitVec 32 := 32#32
  let v81 : BitVec 32 := Scalar.remsi v80 c32_i32_79
  let c128_i32_86 : BitVec 32 := 128#32
  let v87 : BitVec 32 := Scalar.muli v81 c128_i32_86
  let v88 : Index := Scalar.indexCast v87
  let c0_87 : Index := 0#32
  ![v88.toNat, 0]
def k0_off3 (d0 : Dev nD) (c0_i32_89 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_88 : BitVec 32 := 1#32
  let v90 : BitVec 32 := Scalar.addi v2 c1_i32_88
  let v91 : BitVec 32 := Scalar.addi v90 c0_i32_89
  let c32_i32_90 : BitVec 32 := 32#32
  let v92 : BitVec 32 := Scalar.remsi v91 c32_i32_90
  let c128_i32_97 : BitVec 32 := 128#32
  let v98 : BitVec 32 := Scalar.muli v92 c128_i32_97
  let v99 : Index := Scalar.indexCast v98
  let c0_98 : Index := 0#32
  ![v99.toNat, 0]
def k0_dev7 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_113 : BitVec 32 := 1#32
  let v109 : BitVec 32 := Scalar.muli v6 c1_i32_113
  let v110 : BitVec 32 := Scalar.addi c0_i32_114 v109
  v110.toNat
def k0_dev8 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_133 : BitVec 32 := 1#32
  let v127 : BitVec 32 := Scalar.muli v4 c1_i32_133
  let v128 : BitVec 32 := Scalar.addi c0_i32_134 v127
  v128.toNat
def k0_dev9 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_149 : BitVec 32 := 1#32
  let v143 : BitVec 32 := Scalar.muli v4 c1_i32_149
  let v144 : BitVec 32 := Scalar.addi c0_i32_150 v143
  v144.toNat
def k0_dev10 (d0 : Dev nD) : Nat :=
  let c0_i32_162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_161 : BitVec 32 := 1#32
  let v151 : BitVec 32 := Scalar.muli v6 c1_i32_161
  let v152 : BitVec 32 := Scalar.addi c0_i32_162 v151
  v152.toNat
def k0_dev11 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_198 : BitVec 32 := 1#32
  let v182 : BitVec 32 := Scalar.muli v6 c1_i32_198
  let v183 : BitVec 32 := Scalar.addi c0_i32_199 v182
  v183.toNat
def k0_dev12 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_220 : BitVec 32 := 1#32
  let v200 : BitVec 32 := Scalar.muli v4 c1_i32_220
  let v201 : BitVec 32 := Scalar.addi c0_i32_221 v200
  v201.toNat
def k0_dev13 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_236 : BitVec 32 := 1#32
  let v216 : BitVec 32 := Scalar.muli v4 c1_i32_236
  let v217 : BitVec 32 := Scalar.addi c0_i32_237 v216
  v217.toNat
def k0_dev14 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_248 : BitVec 32 := 1#32
  let v224 : BitVec 32 := Scalar.muli v6 c1_i32_248
  let v225 : BitVec 32 := Scalar.addi c0_i32_249 v224
  v225.toNat
def k0_dev15 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_285 : BitVec 32 := 1#32
  let v255 : BitVec 32 := Scalar.muli v6 c1_i32_285
  let v256 : BitVec 32 := Scalar.addi c0_i32_286 v255
  v256.toNat
def k0_dev16 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_307 : BitVec 32 := 1#32
  let v273 : BitVec 32 := Scalar.muli v4 c1_i32_307
  let v274 : BitVec 32 := Scalar.addi c0_i32_308 v273
  v274.toNat
def k0_dev17 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_323 : BitVec 32 := 1#32
  let v289 : BitVec 32 := Scalar.muli v4 c1_i32_323
  let v290 : BitVec 32 := Scalar.addi c0_i32_324 v289
  v290.toNat
def k0_dev18 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_335 : BitVec 32 := 1#32
  let v297 : BitVec 32 := Scalar.muli v6 c1_i32_335
  let v298 : BitVec 32 := Scalar.addi c0_i32_336 v297
  v298.toNat
def k0_dev19 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_372 : BitVec 32 := 1#32
  let v328 : BitVec 32 := Scalar.muli v6 c1_i32_372
  let v329 : BitVec 32 := Scalar.addi c0_i32_373 v328
  v329.toNat
def k0_dev20 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_394 : BitVec 32 := 1#32
  let v346 : BitVec 32 := Scalar.muli v4 c1_i32_394
  let v347 : BitVec 32 := Scalar.addi c0_i32_395 v346
  v347.toNat
def k0_dev21 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_410 : BitVec 32 := 1#32
  let v362 : BitVec 32 := Scalar.muli v4 c1_i32_410
  let v363 : BitVec 32 := Scalar.addi c0_i32_411 v362
  v363.toNat
def k0_dev22 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_422 : BitVec 32 := 1#32
  let v370 : BitVec 32 := Scalar.muli v6 c1_i32_422
  let v371 : BitVec 32 := Scalar.addi c0_i32_423 v370
  v371.toNat
def k0_dev23 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_459 : BitVec 32 := 1#32
  let v401 : BitVec 32 := Scalar.muli v6 c1_i32_459
  let v402 : BitVec 32 := Scalar.addi c0_i32_460 v401
  v402.toNat
def k0_dev24 (d0 : Dev nD) : Nat :=
  let c0_i32_482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_481 : BitVec 32 := 1#32
  let v419 : BitVec 32 := Scalar.muli v4 c1_i32_481
  let v420 : BitVec 32 := Scalar.addi c0_i32_482 v419
  v420.toNat
def k0_dev25 (d0 : Dev nD) : Nat :=
  let c0_i32_498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_497 : BitVec 32 := 1#32
  let v435 : BitVec 32 := Scalar.muli v4 c1_i32_497
  let v436 : BitVec 32 := Scalar.addi c0_i32_498 v435
  v436.toNat
def k0_dev26 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_509 : BitVec 32 := 1#32
  let v443 : BitVec 32 := Scalar.muli v6 c1_i32_509
  let v444 : BitVec 32 := Scalar.addi c0_i32_510 v443
  v444.toNat
def k0_dev27 (d0 : Dev nD) : Nat :=
  let c0_i32_547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_546 : BitVec 32 := 1#32
  let v474 : BitVec 32 := Scalar.muli v6 c1_i32_546
  let v475 : BitVec 32 := Scalar.addi c0_i32_547 v474
  v475.toNat
def k0_dev28 (d0 : Dev nD) : Nat :=
  let c0_i32_569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_568 : BitVec 32 := 1#32
  let v492 : BitVec 32 := Scalar.muli v4 c1_i32_568
  let v493 : BitVec 32 := Scalar.addi c0_i32_569 v492
  v493.toNat
def k0_dev29 (d0 : Dev nD) : Nat :=
  let c0_i32_585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_584 : BitVec 32 := 1#32
  let v508 : BitVec 32 := Scalar.muli v4 c1_i32_584
  let v509 : BitVec 32 := Scalar.addi c0_i32_585 v508
  v509.toNat
def k0_dev30 (d0 : Dev nD) : Nat :=
  let c0_i32_597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_596 : BitVec 32 := 1#32
  let v516 : BitVec 32 := Scalar.muli v6 c1_i32_596
  let v517 : BitVec 32 := Scalar.addi c0_i32_597 v516
  v517.toNat
def k0_dev31 (d0 : Dev nD) : Nat :=
  let c0_i32_634 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_633 : BitVec 32 := 1#32
  let v547 : BitVec 32 := Scalar.muli v6 c1_i32_633
  let v548 : BitVec 32 := Scalar.addi c0_i32_634 v547
  v548.toNat
def k0_dev32 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_655 : BitVec 32 := 1#32
  let v565 : BitVec 32 := Scalar.muli v4 c1_i32_655
  let v566 : BitVec 32 := Scalar.addi c0_i32_656 v565
  v566.toNat
def k0_dev33 (d0 : Dev nD) : Nat :=
  let c0_i32_672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_671 : BitVec 32 := 1#32
  let v581 : BitVec 32 := Scalar.muli v4 c1_i32_671
  let v582 : BitVec 32 := Scalar.addi c0_i32_672 v581
  v582.toNat
def k0_dev34 (d0 : Dev nD) : Nat :=
  let c0_i32_684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_683 : BitVec 32 := 1#32
  let v589 : BitVec 32 := Scalar.muli v6 c1_i32_683
  let v590 : BitVec 32 := Scalar.addi c0_i32_684 v589
  v590.toNat
def k0_dev35 (d0 : Dev nD) : Nat :=
  let c0_i32_721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_720 : BitVec 32 := 1#32
  let v620 : BitVec 32 := Scalar.muli v6 c1_i32_720
  let v621 : BitVec 32 := Scalar.addi c0_i32_721 v620
  v621.toNat
def k0_dev36 (d0 : Dev nD) : Nat :=
  let c0_i32_743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_742 : BitVec 32 := 1#32
  let v638 : BitVec 32 := Scalar.muli v4 c1_i32_742
  let v639 : BitVec 32 := Scalar.addi c0_i32_743 v638
  v639.toNat
def k0_dev37 (d0 : Dev nD) : Nat :=
  let c0_i32_759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_758 : BitVec 32 := 1#32
  let v654 : BitVec 32 := Scalar.muli v4 c1_i32_758
  let v655 : BitVec 32 := Scalar.addi c0_i32_759 v654
  v655.toNat
def k0_dev38 (d0 : Dev nD) : Nat :=
  let c0_i32_771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_770 : BitVec 32 := 1#32
  let v662 : BitVec 32 := Scalar.muli v6 c1_i32_770
  let v663 : BitVec 32 := Scalar.addi c0_i32_771 v662
  v663.toNat
def k0_dev39 (d0 : Dev nD) : Nat :=
  let c0_i32_808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_807 : BitVec 32 := 1#32
  let v693 : BitVec 32 := Scalar.muli v6 c1_i32_807
  let v694 : BitVec 32 := Scalar.addi c0_i32_808 v693
  v694.toNat
def k0_dev40 (d0 : Dev nD) : Nat :=
  let c0_i32_830 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_829 : BitVec 32 := 1#32
  let v711 : BitVec 32 := Scalar.muli v4 c1_i32_829
  let v712 : BitVec 32 := Scalar.addi c0_i32_830 v711
  v712.toNat
def k0_dev41 (d0 : Dev nD) : Nat :=
  let c0_i32_846 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_845 : BitVec 32 := 1#32
  let v727 : BitVec 32 := Scalar.muli v4 c1_i32_845
  let v728 : BitVec 32 := Scalar.addi c0_i32_846 v727
  v728.toNat
def k0_dev42 (d0 : Dev nD) : Nat :=
  let c0_i32_858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_857 : BitVec 32 := 1#32
  let v735 : BitVec 32 := Scalar.muli v6 c1_i32_857
  let v736 : BitVec 32 := Scalar.addi c0_i32_858 v735
  v736.toNat
def k0_dev43 (d0 : Dev nD) : Nat :=
  let c0_i32_895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_894 : BitVec 32 := 1#32
  let v766 : BitVec 32 := Scalar.muli v6 c1_i32_894
  let v767 : BitVec 32 := Scalar.addi c0_i32_895 v766
  v767.toNat
def k0_dev44 (d0 : Dev nD) : Nat :=
  let c0_i32_917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_916 : BitVec 32 := 1#32
  let v784 : BitVec 32 := Scalar.muli v4 c1_i32_916
  let v785 : BitVec 32 := Scalar.addi c0_i32_917 v784
  v785.toNat
def k0_dev45 (d0 : Dev nD) : Nat :=
  let c0_i32_933 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_932 : BitVec 32 := 1#32
  let v800 : BitVec 32 := Scalar.muli v4 c1_i32_932
  let v801 : BitVec 32 := Scalar.addi c0_i32_933 v800
  v801.toNat
def k0_dev46 (d0 : Dev nD) : Nat :=
  let c0_i32_945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_944 : BitVec 32 := 1#32
  let v808 : BitVec 32 := Scalar.muli v6 c1_i32_944
  let v809 : BitVec 32 := Scalar.addi c0_i32_945 v808
  v809.toNat
def k0_dev47 (d0 : Dev nD) : Nat :=
  let c0_i32_982 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_981 : BitVec 32 := 1#32
  let v839 : BitVec 32 := Scalar.muli v6 c1_i32_981
  let v840 : BitVec 32 := Scalar.addi c0_i32_982 v839
  v840.toNat
def k0_dev48 (d0 : Dev nD) : Nat :=
  let c0_i32_1004 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1003 : BitVec 32 := 1#32
  let v857 : BitVec 32 := Scalar.muli v4 c1_i32_1003
  let v858 : BitVec 32 := Scalar.addi c0_i32_1004 v857
  v858.toNat
def k0_dev49 (d0 : Dev nD) : Nat :=
  let c0_i32_1020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1019 : BitVec 32 := 1#32
  let v873 : BitVec 32 := Scalar.muli v4 c1_i32_1019
  let v874 : BitVec 32 := Scalar.addi c0_i32_1020 v873
  v874.toNat
def k0_dev50 (d0 : Dev nD) : Nat :=
  let c0_i32_1032 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1031 : BitVec 32 := 1#32
  let v881 : BitVec 32 := Scalar.muli v6 c1_i32_1031
  let v882 : BitVec 32 := Scalar.addi c0_i32_1032 v881
  v882.toNat
def k0_dev51 (d0 : Dev nD) : Nat :=
  let c0_i32_1069 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1068 : BitVec 32 := 1#32
  let v912 : BitVec 32 := Scalar.muli v6 c1_i32_1068
  let v913 : BitVec 32 := Scalar.addi c0_i32_1069 v912
  v913.toNat
def k0_dev52 (d0 : Dev nD) : Nat :=
  let c0_i32_1091 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1090 : BitVec 32 := 1#32
  let v930 : BitVec 32 := Scalar.muli v4 c1_i32_1090
  let v931 : BitVec 32 := Scalar.addi c0_i32_1091 v930
  v931.toNat
def k0_dev53 (d0 : Dev nD) : Nat :=
  let c0_i32_1107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1106 : BitVec 32 := 1#32
  let v946 : BitVec 32 := Scalar.muli v4 c1_i32_1106
  let v947 : BitVec 32 := Scalar.addi c0_i32_1107 v946
  v947.toNat
def k0_dev54 (d0 : Dev nD) : Nat :=
  let c0_i32_1119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1118 : BitVec 32 := 1#32
  let v954 : BitVec 32 := Scalar.muli v6 c1_i32_1118
  let v955 : BitVec 32 := Scalar.addi c0_i32_1119 v954
  v955.toNat
def k0_dev55 (d0 : Dev nD) : Nat :=
  let c0_i32_1156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1155 : BitVec 32 := 1#32
  let v985 : BitVec 32 := Scalar.muli v6 c1_i32_1155
  let v986 : BitVec 32 := Scalar.addi c0_i32_1156 v985
  v986.toNat
def k0_dev56 (d0 : Dev nD) : Nat :=
  let c0_i32_1178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1177 : BitVec 32 := 1#32
  let v1003 : BitVec 32 := Scalar.muli v4 c1_i32_1177
  let v1004 : BitVec 32 := Scalar.addi c0_i32_1178 v1003
  v1004.toNat
def k0_dev57 (d0 : Dev nD) : Nat :=
  let c0_i32_1194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_1193 : BitVec 32 := 1#32
  let v1019 : BitVec 32 := Scalar.muli v4 c1_i32_1193
  let v1020 : BitVec 32 := Scalar.addi c0_i32_1194 v1019
  v1020.toNat
def k0_dev58 (d0 : Dev nD) : Nat :=
  let c0_i32_1240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v5 : BitVec 32 := Scalar.addi v2 c1_i32_1
  let c32_i32_2 : BitVec 32 := 32#32
  let v6 : BitVec 32 := Scalar.remsi v5 c32_i32_2
  let c1_i32_1239 : BitVec 32 := 1#32
  let v1056 : BitVec 32 := Scalar.muli v6 c1_i32_1239
  let v1057 : BitVec 32 := Scalar.addi c0_i32_1240 v1056
  v1057.toNat
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Prog.lean ====
/-
# The kernel's program, written by direction and step

The kernel moves blocks of `x` both ways round a ring of 32 devices. A direction is a `Bool`: `true` is the way
to the next device (16 hops), `false` the way to the previous one (15 hops). A hop's block lands in one of three
slots of the direction's buffer. The printed kernel is straight-line code; here it is written as a recursion over
the step, each step made of the same three pieces for either direction, and BodyEq.lean shows that the
two are the same program.
-/
module

public import proofs.«01_k».proof.Proof.Gen.KernelIdeal.Skeleton
public import proofs.«01_k».proof.Proof.Gen.KernelIdeal.Points

@[expose] public section

noncomputable section

namespace Cert.Ring

open Cert.KernelIdeal Cert.KernelIdeal.Gen
open Idealize.ShloMosaic Idealize.ShloMosaic.TcCoe Idealize.SL.Sem

variable {F : FTy → Type} [FloatOps F]

/-- The next device on the ring. -/
def nxt (c : Dev nD) : Dev nD := ⟨k0_dev3 c, k0_dev3_lt c⟩

/-- The previous device on the ring. -/
def prv (c : Dev nD) : Dev nD := ⟨k0_dev4 c, k0_dev4_lt c⟩

/-- The device a direction sends to. -/
def up : Bool → Dev nD → Dev nD
  | true => nxt
  | false => prv

/-- The device a direction receives from. -/
def dn : Bool → Dev nD → Dev nD
  | true => prv
  | false => nxt

/-- How many hops a direction makes. -/
abbrev H : Bool → ℕ
  | true => 16
  | false => 15

/-- The staged operand blocks, the result block, and the two slot buffers. -/
abbrev xM : Memref sig .tc .vmem S128x4096 .f32 := Memref.whole cc0_stg0_0
abbrev wM : Memref sig .tc .vmem S4096x256 .f32 := Memref.whole cc0_stg1_0
abbrev oM : Memref sig .tc .vmem S4096x256 .f32 := Memref.whole cc0_stg2_0
def scrM : Bool → Memref sig .tc .vmem S3x128x4096 .f32
  | true => Memref.whole cc0_scratch0
  | false => Memref.whole cc0_scratch1

/-- A slot lies inside its buffer. -/
theorem inb_slot (j : Fin 3) : ∀ a, (![j.val, 0, 0] : Fin 3 → Nat) a + S1x128x4096.size a ≤ S3x128x4096.size a := by
  revert j; decide

/-- The rectangle of slot `j`. -/
abbrev slotR (j : Fin 3) : Rect S3x128x4096 := Rect.unit (s := S3x128x4096) ![j.val, 0, 0] S1x128x4096.size (inb_slot j)

/-- Slot `j` of a direction, as one block. -/
def slotM (a : Bool) (j : Fin 3) : Memref sig .tc .vmem S128x4096 .f32 :=
  ((scrM a).slice (slotR j) (fun _ => rfl)).squeeze S128x4096 squeezes_S1x128x4096_S128x4096

/-- The slot of a hop. -/
def sl (h : ℕ) : Fin 3 := ⟨h % 3, Nat.mod_lt _ (by decide)⟩

/-- What a hop sends: the device's own block first, then the block the previous hop brought. -/
def srcM (a : Bool) : ℕ → Memref sig .tc .vmem S128x4096 .f32
  | 0 => xM
  | h + 1 => slotM a (sl h)

/-- The semaphores of a direction: per slot, the sender's and the receiver's completion; and the credits. -/
def sndS (a : Bool) (j : Fin 3) : DmaSem sig := ⟨(match a with | true => 3 | false => 9) + j.val, by cases a <;> (revert j; decide)⟩
def rcvS (a : Bool) (j : Fin 3) : DmaSem sig := ⟨(match a with | true => 6 | false => 12) + j.val, by cases a <;> (revert j; decide)⟩
def crdS (a : Bool) : Sem sig := match a with | true => 0 | false => 1
abbrev barS : Sem sig := 2

/-- A slot is made of whole words. -/
theorem slotM_exact (a : Bool) (j : Fin 3) : (slotM a j).view.WordExact :=
  ((View.wordExact_bits (v := ((scrM a).slice (slotR j) (fun _ => rfl)).view) rfl).reshape _ _)

/-- What a hop sends from is made of whole words. -/
theorem srcM_exact (a : Bool) : (h : ℕ) → (srcM a h).view.WordExact
  | 0 => (Memref.isWhole_whole _).wordExact
  | _ + 1 => slotM_exact _ _

/-- The rows of the result that step `s` of a direction writes. -/
def offO : Bool → Dev nD → ℕ → Fin 2 → Nat
  | true, c, s => k0_off2 c (BitVec.ofNat 32 (31 - s))
  | false, c, s => k0_off3 c (BitVec.ofNat 32 s)

/-- The rows that a step stores lie inside the result. -/
theorem offO_inb (a : Bool) (c : Dev nD) (s : ℕ) (h : s < H a) : ∀ i, (offO a c s) i + S128x256.size i ≤ S4096x256.size i := by
  cases a
  · exact k0_off3_inb c ⟨s, h⟩
  · have h' : s < 16 := h
    have e : 31 - s = 16 + (15 - s) := by omega
    show ∀ i, (k0_off2 c (BitVec.ofNat 32 (31 - s))) i + S128x256.size i ≤ S4096x256.size i
    rw [e]
    exact k0_off2_inb c ⟨15 - s, by omega⟩

/-- Programs of the kernel. -/
abbrev KProg (F : FTy → Type) [FloatOps F] := Prog (TpuEff nD τ sig (Elt F) Λ₀ .tc) PUnit

/-- Send hop `h` of a direction. -/
def send (a : Bool) (c : Dev nD) (h : ℕ) : KProg F :=
  Prog.lift (.enqueueDma (srcM a h) (.remote (Dev.tc (up a c)) (slotM a (sl h)) (.dma (sndS a (sl h)))) (.dma (rcvS a (sl h)))
    (srcM_exact a h) (slotM_exact a (sl h)) ⟨⟨rfl, Or.inl rfl⟩, trivial⟩)

/-- Step `s`, first piece: take what hop `s` brought and send it on. -/
def forward (a : Bool) (c : Dev nD) (s : ℕ) : KProg F :=
  if s < H a then do
    Prog.lift (.waitDma2 (rcvS a (sl s)) (slotM a (sl s)) (slotM a (sl s)) (slotM_exact _ _) (slotM_exact _ _))
    if s + 1 < H a then do
      if 2 ≤ s then semWaitWord (crdS a) 1#32
      send a c (s + 1)
  else pure ⟨⟩

/-- Step `s`, second piece: hop `s` has been sent; give its source slot back. -/
def retire (a : Bool) (c : Dev nD) (s : ℕ) : KProg F :=
  if s < H a then do
    Prog.lift (.waitDma2 (sndS a (sl s)) (slotM a (sl s)) (srcM a s) (slotM_exact _ _) (srcM_exact _ _))
    if 1 ≤ s ∧ s + 2 < H a then semSignalWord (dn a c) (crdS a) 1#32
  else pure ⟨⟩

/-- Step `s`, third piece: the product of the block that hop `s` brought. -/
def dot (a : Bool) (c : Dev nD) (s : ℕ) : KProg F :=
  if h : s < H a then do
    let v : Vec F S1x128x4096 .f32 ← Prog.lift (.load (scrM a) (slotR (sl s)).toLoadRect (View.loadsAt_vmem h_S1x128x4096))
    let w : Vec F S4096x256 .f32 ← Prog.lift (.load wM (Rect.unit (s := S4096x256) ![0, 0] S4096x256.size inb_S4096x256_S4096x256_0_0).toLoadRect (View.loadsAt_vmem h_S4096x256))
    let _ : Vec F S128x256 .f32 ← Prog.lift (.load oM (Rect.unit (s := S4096x256) (offO a c s) S128x256.size (offO_inb a c s h)).toLoadRect (View.loadsAt_vmem h_S128x256))
    Prog.lift (.store oM (Rect.unit (s := S4096x256) (offO a c s) S128x256.size (offO_inb a c s h)) (k0_pay3 v w) Finset.univ (View.stores_vmem_bits_univ h_S128x256 rfl) (.inl rfl))
  else pure ⟨⟩

/-- Step `s` of both directions. -/
def step (c : Dev nD) (s : ℕ) : KProg F := do
  forward true c s
  forward false c s
  retire true c s
  retire false c s
  dot true c s
  dot false c s

/-- `n` steps from step `s` on. -/
def steps (c : Dev nD) : ℕ → ℕ → KProg F
  | 0, _ => pure ⟨⟩
  | n + 1, s => do step c s; steps c n (s + 1)

/-- The product of the device's own block. -/
def ownDot (c : Dev nD) : KProg F := do
  let v : Vec F S128x4096 .f32 ← Prog.lift (.load xM (Rect.unit (s := S128x4096) ![0, 0] S128x4096.size inb_S128x4096_S128x4096_0_0).toLoadRect (View.loadsAt_vmem h_S128x4096))
  let w : Vec F S4096x256 .f32 ← Prog.lift (.load wM (Rect.unit (s := S4096x256) ![0, 0] S4096x256.size inb_S4096x256_S4096x256_0_0).toLoadRect (View.loadsAt_vmem h_S4096x256))
  let _ : Vec F S128x256 .f32 ← Prog.lift (.load oM (Rect.unit (s := S4096x256) (k0_off1 c) S128x256.size (k0_off1_inb c)).toLoadRect (View.loadsAt_vmem h_S128x256))
  Prog.lift (.store oM (Rect.unit (s := S4096x256) (k0_off1 c) S128x256.size (k0_off1_inb c)) (k0_pay2 v w) Finset.univ (View.stores_vmem_bits_univ h_S128x256 rfl) (.inl rfl))

/-- The whole body: the barrier, the first hops, the own block's product, sixteen steps. -/
def prog (c : Dev nD) : KProg F := do
  semSignalWord (prv c) barS 1#32
  semSignalWord (nxt c) barS 1#32
  semWaitWord barS 2#32
  send true c 0
  send false c 0
  ownDot c
  steps c 16 0

end Cert.Ring
-- ==== Proof.Protocol.lean ====
/-
# The protocol of the ring

Each device owns fifteen semaphores: the barrier; per direction the credit counter; per direction and slot the
sender's and the receiver's completion.

* Barrier of `d`: both neighbours add 1, `d` waits for 2. The neighbour that `d` sends to in direction `a` has
  emptied its three slots of that direction first: it hands over that hops 0, 1, 2 may land.
* Receiver's completion of slot `j` at `c`: hop `3 r + j` is its round `r`. The landing hands over the slot, holding
  the block of the device `3 r + j + 1` places back.
* Sender's completion of slot `j` at `c`: round `r` is `c`'s own hop `3 r + j`; it hands back the share of the source
  that the transfer was reading.
* Credits of direction `a` at `c`: one round. The neighbour that `c` sends to adds 1 at each of its steps 1, 2, …:
  unit `i` says that hops up to `i + 3` may land. Two units can be under way together and land in either order, so a
  unit carries the evidence for all the earlier hops as well, and `k` units taken are enough for hop `k + 2`.

That a hop may land is a fact that can be copied: its slot lies in an invariant of its own, from which only the sender
of that hop can take it.
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## Ghost state -/

/-- A hop's slot: the device it lands on, the direction, the hop. -/
abbrev Key : Type := Dev nD × Bool × ℕ
abbrev UB : Type := URounds (GSem nD τ sig) ℕ × USlots Key
abbrev UU : Type := UR sig nD τ × UB

local notation "𝕄" => MT nD τ sig ℕ (Elt F) ℕ UU ℕ

abbrev EP : Emb (UR sig nD τ) (MT nD τ sig ℕ (Elt F) ℕ UU ℕ) := embL
def ER : Emb (URounds (GSem nD τ sig) ℕ) (MT nD τ sig ℕ (Elt F) ℕ UU ℕ) := Emb.inl.trans (embR (A := UR sig nD τ) (B := UB))
def ES : Emb (USlots Key) (MT nD τ sig ℕ (Elt F) ℕ UU ℕ) := Emb.inr.trans (embR (A := UR sig nD τ) (B := UB))

instance ER_landsIn : (ER (F := F)).LandsIn (upEmb : UEmb _ 𝕄) := by unfold ER; infer_instance
instance ES_landsIn : (ES (F := F)).LandsIn (upEmb : UEmb _ 𝕄) := by unfold ES; infer_instance

/-! ## The ring -/

/-- The next device's number. -/
theorem nxt_val (c : Dev nD) : (nxt c).val = (c.val + 1) % 32 := k0_dev3_eq c
/-- The number of the device before. -/
theorem prv_val (c : Dev nD) : (prv c).val = (c.val + 31) % 32 := k0_dev4_eq c

/-- One place on and one back is where it began. -/
theorem dn_up (a : Bool) (c : Dev nD) : dn a (up a c) = c := by
  have : c.val < 32 := c.isLt
  cases a <;> refine Fin.ext ?_ <;> simp only [up, dn, nxt_val, prv_val] <;> omega

/-- One place back and one on is where it began. -/
theorem up_dn (a : Bool) (c : Dev nD) : up a (dn a c) = c := by
  have : c.val < 32 := c.isLt
  cases a <;> refine Fin.ext ?_ <;> simp only [up, dn, nxt_val, prv_val] <;> omega

/-- A direction's sending order as a permutation of the devices. -/
def ring (a : Bool) : Dev nD ≃ Dev nD := ⟨up a, dn a, dn_up a, up_dn a⟩

/-- Whose block a device sends in hop `h`. -/
def org (a : Bool) (c : Dev nD) (h : ℕ) : Dev nD := (dn a)^[h] c

/-- Before any hop a device holds its own block. -/
theorem org_zero (a : Bool) (c : Dev nD) : org a c 0 = c := rfl
/-- What arrives with a hop is what the sender held before it. -/
theorem org_up (a : Bool) (c : Dev nD) (h : ℕ) : org a (up a c) (h + 1) = org a c h := by
  unfold org; rw [Function.iterate_succ_apply, dn_up]

/-! ## Cells -/

abbrev sndC (a : Bool) (c : Dev nD) (j : Fin 3) : GSem nD τ sig := ((c : Thread nD τ), .dma (sndS a j))
abbrev rcvC (a : Bool) (c : Dev nD) (j : Fin 3) : GSem nD τ sig := ((c : Thread nD τ), .dma (rcvS a j))
abbrev crdC (a : Bool) (c : Dev nD) : GSem nD τ sig := ((c : Thread nD τ), .reg (crdS a))
abbrev barC (c : Dev nD) : GSem nD τ sig := ((c : Thread nD τ), .reg barS)

/-- What a semaphore is for. -/
inductive Role where
  | bar
  | crd (a : Bool)
  | snd (a : Bool) (j : Fin 3)
  | rcv (a : Bool) (j : Fin 3)
  | other
  deriving DecidableEq

/-- The role of a semaphore. -/
def role : SemLoc sig → Role
  | .reg s => if s = 0 then .crd true else if s = 1 then .crd false else .bar
  | .dma q =>
    if q.val < 3 then .other
    else if q.val < 6 then .snd true (sl (q.val - 3))
    else if q.val < 9 then .rcv true (sl (q.val - 6))
    else if q.val < 12 then .snd false (sl (q.val - 9))
    else .rcv false (sl (q.val - 12))

/-- The role of a sender's completion. -/
theorem role_snd (a : Bool) (j : Fin 3) : role (.dma (sndS a j)) = .snd a j := by revert a j; decide
/-- The role of a receiver's completion. -/
theorem role_rcv (a : Bool) (j : Fin 3) : role (.dma (rcvS a j)) = .rcv a j := by revert a j; decide
/-- The role of a credit counter. -/
theorem role_crd (a : Bool) : role (.reg (crdS a)) = .crd a := by revert a; decide
/-- The role of the barrier. -/
theorem role_bar : role (.reg barS) = .bar := by decide

/-- The units of a slot's transfer. -/
def N : ℕ := (slotM true 0).view.dmaCredit

/-- How many credits a direction uses. -/
abbrev C (a : Bool) : ℕ := H a - 3

/-! ## What the cells hand over -/

variable (xb : Dev nD → S128x4096.Idx → Elt F .f32)

/-- The share of its source that a hop reads. -/
def shr : Bool → ℕ → PosShare TreeShare
  | true, 0 => fullShare.left
  | false, 0 => fullShare.right.left
  | _, _ + 1 => fullShare.left

/-- Hop `h` of direction `a` may land on `c`. -/
def free (a : Bool) (c : Dev nD) (h : ℕ) : sProp 𝕄 := iprop(released ES (c, a, h) 1 ∗ reached ER (rcvC a c (sl h)) (h / 3))

/-- The first `n` hops of direction `a` may land on `c`. -/
def freeTo (a : Bool) (c : Dev nD) (n : ℕ) : sProp 𝕄 := bigSep (Finset.range n) (free (F := F) a c)

instance free_persistent (a : Bool) (c : Dev nD) (h : ℕ) : BI.Persistent (free (F := F) a c h) := by unfold free; infer_instance
instance freeTo_persistent (a : Bool) (c : Dev nD) (n : ℕ) : BI.Persistent (freeTo (F := F) a c n) := by unfold freeTo; infer_instance
instance free_storable (a : Bool) (c : Dev nD) (h : ℕ) : BI.Storable (upEmb : UEmb _ 𝕄) (free (F := F) a c h) := by unfold free; infer_instance
instance freeTo_storable (a : Bool) (c : Dev nD) (n : ℕ) : BI.Storable (upEmb : UEmb _ 𝕄) (freeTo (F := F) a c n) := by unfold freeTo; infer_instance

/-- The barrier duty by which the neighbour of direction `a` reports. -/
def bd : Bool → ℕ
  | true => 0
  | false => 1

def duties (g : GSem nD τ sig) (r : ℕ) : Finset ℕ :=
  match role g.2 with
  | .bar => if r = 0 then {0, 1} else ∅
  | .crd a => if r = 0 then Finset.range (C a) else ∅
  | .snd a j => if 3 * r + j.val < H a then {0} else ∅
  | .rcv a j => if 3 * r + j.val < H a then {0} else ∅
  | .other => ∅

def amount (g : GSem nD τ sig) (r : ℕ) (d : ℕ) : ℕ :=
  match role g.2 with
  | .bar => 1
  | .crd _ => 1
  | _ => N

def payload (g : GSem nD τ sig) (r : ℕ) (d : ℕ) : sProp 𝕄 :=
  match role g.2 with
  | .bar => freeTo (d == 0) (up (d == 0) g.1.1) 3
  | .crd a => freeTo a (up a g.1.1) (d + 4)
  | .snd a j => owns (g.1.1 : Thread nD τ) (srcM a (3 * r + j.val)) (shr a (3 * r + j.val)) (xb (org a g.1.1 (3 * r + j.val)))
  | .rcv a j => owns (g.1.1 : Thread nD τ) (slotM a j) fullShare (xb (org a g.1.1 (3 * r + j.val + 1)))
  | .other => iprop(emp)

/-- A transfer counts for something. -/
theorem N_pos : 0 < N := View.dmaCredit_pos _ (by decide)

def Rd : Schedule (GSem nD τ sig) ℕ 𝕄 where
  duties := duties
  amount := amount
  payload := payload xb
  amount_pos g r d _ := by unfold amount; split <;> first | exact Nat.one_pos | exact N_pos

instance payload_storable (g : GSem nD τ sig) (r d : ℕ) : BI.Storable (upEmb : UEmb _ 𝕄) ((Rd (F := F) xb).payload g r d) := by
  show BI.Storable _ (payload xb g r d)
  unfold payload
  split <;> infer_instance

/-! ## Levels and what is owed -/

/-- What a device still owes in a direction: the hops from `h` on, the credits from `k` on. -/
def owed (a : Bool) (c : Dev nD) (h k : ℕ) : CellTallies nD τ sig ℕ :=
  (∑ i ∈ Finset.Ico h (H a), tallyAt (rcvC a (up a c) (sl i)) i N) + ∑ i ∈ Finset.Ico k (C a), tallyAt (crdC a (dn a c)) i 1

/-- The credit a device owes its neighbours' barriers, and everything it owes at the start. -/
def owedBar (a : Bool) (c : Dev nD) : CellTallies nD τ sig ℕ := tallyAt (barC (dn a c)) 0 1
def O₀ (c : Dev nD) : CellTallies nD τ sig ℕ := owed true c 0 0 + owed false c 0 0 + owedBar false c + owedBar true c

def L (g : GSem nD τ sig) : Finset ℕ := if g.1.2 = .tc then Finset.range 16 else ∅

/-- The order in which the cells' contributions come. -/
def lv (g : GSem nD τ sig) (i : ℕ) : ℕ :=
  match role g.2 with
  | .bar => 1
  | .crd _ => 2 * i + 5
  | .rcv _ _ => 2 * i + 2
  | _ => 0

/-- Only the devices' main threads wait. -/
theorem L_of_ne (g : GSem nD τ sig) (h : g.1.2 ≠ .tc) : L g = ∅ := if_neg h
/-- The sixteen levels of a semaphore. -/
theorem L_tc (c : Dev nD) (sm : SemLoc sig) : L ((c : Thread nD τ), sm) = Finset.range 16 := if_pos rfl

/-- All that is owed in `O` comes after level `n`. -/
def Above (n : ℕ) (O : CellTallies nD τ sig ℕ) : Prop := ∀ g u, 0 < O g u → u ∈ L g ∧ n < lv g u

/-- Nothing owed comes after every level. -/
theorem above_zero (n : ℕ) : Above n 0 := fun _ _ h => absurd h (Nat.lt_irrefl 0)

/-- Two debts above a level are together above it. -/
theorem above_add {n : ℕ} {A B : CellTallies nD τ sig ℕ} (hA : Above n A) (hB : Above n B) : Above n (A + B) := fun g u h => by
  rw [Pi.add_apply, Finsupp.add_apply] at h
  rcases Nat.eq_zero_or_pos (A g u) with hz | hp
  · rw [hz, Nat.zero_add] at h; exact hB g u h
  · exact hA g u hp

/-- So are the debts of a sum. -/
theorem above_sum {n : ℕ} (s : Finset ℕ) (A : ℕ → CellTallies nD τ sig ℕ) (hA : ∀ i ∈ s, Above n (A i)) : Above n (∑ i ∈ s, A i) := by
  induction s using Finset.induction_on with
  | empty => rw [Finset.sum_empty]; exact above_zero n
  | insert i s hi ih =>
    rw [Finset.sum_insert hi]
    exact above_add (hA i (Finset.mem_insert_self _ _)) (ih fun j hj => hA j (Finset.mem_insert_of_mem hj))

/-- A single debt above a level. -/
theorem above_tally {n : ℕ} (c : Dev nD) (sm : SemLoc sig) (i k : ℕ) (hi : i < 16) (hn : n < lv ((c : Thread nD τ), sm) i) :
    Above n (tallyAt ((c : Thread nD τ), sm) i k) := fun g u h => by
  rw [tallyAt_apply] at h
  split at h
  · rename_i he; obtain ⟨rfl, rfl⟩ := he
    exact ⟨by rw [L_tc]; exact Finset.mem_range.mpr hi, hn⟩
  · exact absurd h (Nat.lt_irrefl 0)

/-- No direction has more than 16 hops. -/
theorem H_le (a : Bool) : H a ≤ 16 := by cases a <;> decide

/-- The level of a landing. -/
theorem lv_rcv (a : Bool) (c : Dev nD) (j : Fin 3) (i : ℕ) : lv (rcvC a c j) i = 2 * i + 2 := by unfold lv; rw [role_rcv]
/-- The level of a sender's completion. -/
theorem lv_snd (a : Bool) (c : Dev nD) (j : Fin 3) (i : ℕ) : lv (sndC a c j) i = 0 := by unfold lv; rw [role_snd]
/-- The level of a credit. -/
theorem lv_crd (a : Bool) (c : Dev nD) (i : ℕ) : lv (crdC a c) i = 2 * i + 5 := by unfold lv; rw [role_crd]
/-- The level of the barrier. -/
theorem lv_bar (c : Dev nD) (i : ℕ) : lv (barC c) i = 1 := by unfold lv; rw [role_bar]

/-- What a direction still owes comes after its current hop. -/
theorem above_owed (a : Bool) (c : Dev nD) {n h k : ℕ} (hh : n < 2 * h + 2) (hk : n < 2 * k + 5) : Above n (owed a c h k) := by
  have hH := H_le a
  refine above_add (above_sum _ _ fun i hi => ?_) (above_sum _ _ fun i hi => ?_) <;> rw [Finset.mem_Ico] at hi
  · exact above_tally _ _ _ _ (by omega) (by rw [lv_rcv]; omega)
  · have : C a = H a - 3 := rfl
    exact above_tally _ _ _ _ (by omega) (by rw [lv_crd]; omega)

/-- What is owed at the barrier comes after level 0. -/
theorem above_bar (a : Bool) (c : Dev nD) : Above 0 (owedBar a c) := above_tally _ _ _ _ (by decide) (by rw [lv_bar]; decide)

/-- All that is owed at the start comes after level 0. -/
theorem above_O₀ (c : Dev nD) : Above 0 (O₀ c) :=
  above_add (above_add (above_add (above_owed _ _ (by omega) (by omega)) (above_owed _ _ (by omega) (by omega))) (above_bar _ _)) (above_bar _ _)

/-- A wait is allowed when all that is owed comes after it. -/
theorem mayWait (c : Dev nD) (sm : SemLoc sig) (i : ℕ) (O : CellTallies nD τ sig ℕ) (hi : i < 16)
    (hO : Above (lv ((c : Thread nD τ), sm) i) O) : (levAts L lv : sProp 𝕄) ⊢ MayWait (c : Thread nD τ) sm i O :=
  MayOwe.of_cut (L := L) (lev := lv) (lv ((c : Thread nD τ), sm) i)
    (fun p hp => by rw [Finset.mem_singleton.mp hp, L_tc]; exact Finset.mem_range.mpr hi)
    (fun g u hg => (hO g u hg).1)
    (fun p hp => by rw [Finset.mem_singleton.mp hp])
    (fun g u hg => (hO g u hg).2)

/-- The first of an interval's numbers, and the rest. -/
theorem ico_pop {h n : ℕ} (hh : h < n) : Finset.Ico h n = insert h (Finset.Ico (h + 1) n) := by
  ext i; rw [Finset.mem_insert, Finset.mem_Ico, Finset.mem_Ico]; omega

/-- The first of an interval isn't in the rest. -/
theorem ico_notMem (h n : ℕ) : h ∉ Finset.Ico (h + 1) n := by rw [Finset.mem_Ico]; omega

/-- The debt of the next hop, taken out. -/
theorem owed_hop (a : Bool) (c : Dev nD) (h k : ℕ) (hh : h < H a) :
    owed a c h k = owed a c (h + 1) k + tallyAt (rcvC a (up a c) (sl h)) h N := by
  unfold owed; rw [ico_pop hh, Finset.sum_insert (ico_notMem _ _), add_assoc, add_comm]

/-- The debt of the next credit, taken out. -/
theorem owed_credit (a : Bool) (c : Dev nD) (h k : ℕ) (hk : k < C a) :
    owed a c h k = owed a c h (k + 1) + tallyAt (crdC a (dn a c)) k 1 := by
  unfold owed; rw [ico_pop hk, Finset.sum_insert (ico_notMem _ _), add_comm (tallyAt _ _ _), add_assoc]

/-- After the last hop no hop is owed. -/
theorem owed_hop_end (a : Bool) (c : Dev nD) (h h' k : ℕ) (hh : H a ≤ h) (hh' : H a ≤ h') : owed a c h k = owed a c h' k := by
  unfold owed; rw [Finset.Ico_eq_empty (Nat.not_lt.mpr hh), Finset.Ico_eq_empty (Nat.not_lt.mpr hh')]

/-- After the last credit no credit is owed. -/
theorem owed_credit_end (a : Bool) (c : Dev nD) (h k k' : ℕ) (hk : C a ≤ k) (hk' : C a ≤ k') : owed a c h k = owed a c h k' := by
  unfold owed; congr 1; rw [Finset.Ico_eq_empty (Nat.not_lt.mpr hk), Finset.Ico_eq_empty (Nat.not_lt.mpr hk')]

end Cert.Ring
-- ==== Proof.Rules.lean ====
/-
# One rule per operation of the ring

What every device knows throughout (`Know`), and the rules of the protocol's operations from it: sending a hop,
receiving one, waiting for one's own transfer, sending and taking a credit.
-/
module

public import proofs.«01_k».proof.Proof.Protocol

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (xb : Dev nD → S128x4096.Idx → Elt F .f32)

abbrev 𝒱₀ : Variants := Variants.none

/-- From the running program `p` of device `c` to `Q` after it. -/
abbrev WP (c : Dev nD) (p : KProg F) (Q : sProp 𝕄) : sProp 𝕄 :=
  wp frame (wpE (defs₀ (F := F)) 𝒱₀ (c : Thread nD τ) none) Set.univ p (fun _ => Q)

/-! ## Splitting and joining separating conjunctions over finite sets -/

/-- The two ways of writing a separating conjunction agree. -/
theorem sep_split (P Q : sProp 𝕄) : BI.sep P Q ⊢ iprop(P ∗ Q) := BI.Entails.refl _

section Sets
variable {I : Type} [DecidableEq I]

/-- Taking one member out. -/
theorem insert_split (Φ : I → sProp 𝕄) {s : Finset I} {i : I} (h : i ∉ s) : bigSep (insert i s) Φ ⊢ iprop(Φ i ∗ bigSep s Φ) := Entails.of_eq (bigSep_insert h)
/-- Putting one member in. -/
theorem insert_join (Φ : I → sProp 𝕄) {s : Finset I} {i : I} (h : i ∉ s) : iprop(Φ i ∗ bigSep s Φ) ⊢ bigSep (insert i s) Φ := Entails.of_eq (bigSep_insert h).symm
/-- A part and the rest are the whole. -/
theorem subset_join (Φ : I → sProp 𝕄) {s t : Finset I} (h : s ⊆ t) : iprop(bigSep s Φ ∗ bigSep (t \ s) Φ) ⊢ bigSep t Φ :=
  Entails.of_eq (by conv_rhs => rw [← Finset.union_sdiff_of_subset h, bigSep_union Finset.disjoint_sdiff]
                    rfl)
/-- The whole is a part and the rest. -/
theorem subset_split (Φ : I → sProp 𝕄) {s t : Finset I} (h : s ⊆ t) : bigSep t Φ ⊢ iprop(bigSep s Φ ∗ bigSep (t \ s) Φ) :=
  Entails.of_eq (by conv_lhs => rw [← Finset.union_sdiff_of_subset h, bigSep_union Finset.disjoint_sdiff]
                    rfl)
end Sets

/-- The first of an interval, and the rest. -/
theorem ico_split (Φ : ℕ → sProp 𝕄) {h n : ℕ} (hh : h < n) : bigSep (Finset.Ico h n) Φ ⊢ iprop(Φ h ∗ bigSep (Finset.Ico (h + 1) n) Φ) := by
  rw [ico_pop hh]; exact insert_split Φ (ico_notMem h n)

/-! ## What every device knows -/

/-- The fifteen semaphores of the protocol. -/
def asem (i : Fin 15) : SemLoc sig :=
  if h : i.val < 12 then .dma ⟨3 + i.val, by show 3 + i.val < 15; omega⟩
  else .reg ⟨i.val - 12, by show i.val - 12 < 3; omega⟩

abbrev kcell (x : Dev nD × Fin 15) : GSem nD τ sig := ((x.1 : Thread nD τ), asem x.2)

/-- A sender's completion is among the fifteen. -/
theorem asem_snd (a : Bool) (j : Fin 3) : ∃ i, asem i = .dma (sndS a j) := by revert a j; decide
/-- A receiver's completion is among the fifteen. -/
theorem asem_rcv (a : Bool) (j : Fin 3) : ∃ i, asem i = .dma (rcvS a j) := by revert a j; decide
/-- A credit counter is among the fifteen. -/
theorem asem_crd (a : Bool) : ∃ i, asem i = .reg (crdS a) := by revert a; decide
/-- The barrier is among the fifteen. -/
theorem asem_bar : ∃ i, asem i = .reg barS := by decide

/-- The slot that a hop lands in, at any contents. -/
def slotOf (k : Key) : sProp 𝕄 := slot ((slotM k.2.1 (sl k.2.2)).view.loc (k.1 : Thread nD τ)) (slotM k.2.1 (sl k.2.2)).view.set

/-- A hop's slot, spelled out. -/
theorem slotOf_eq (a : Bool) (c : Dev nD) (h : ℕ) : slotOf (F := F) (c, a, h)
    = iprop(∃ f, ((slotM a (sl h)).view.loc (c : Thread nD τ) ↦[(slotM a (sl h)).view.set]{fullShare} f)) := rfl

/-- A slot can't be held twice. -/
theorem slotOf_twice (a : Bool) (c : Dev nD) (h : ℕ) : iprop(slotOf (F := F) (c, a, h) ∗ slotOf (F := F) (c, a, h)) ⊢ (False : sProp 𝕄) :=
  slot_slot_false ((slotM a (sl h)).view.set_nonempty (by decide))

/-- A slot whose contents are known is a slot. -/
theorem slotOf_owns (a : Bool) (c : Dev nD) (h : ℕ) (X : S128x4096.Idx → Elt F .f32) :
    owns (c : Thread nD τ) (slotM a (sl h)) fullShare X ⊢ slotOf (F := F) (c, a, h) := by
  rw [slotOf_eq]; unfold owns; iintro ⟨%f, -, H⟩; iexists f; iexact H

instance slotOf_storable (k : Key) : BI.Storable (upEmb : UEmb _ 𝕄) (slotOf (F := F) k) := by unfold slotOf; infer_instance

/-- All the slots with an invariant. -/
def keys : Finset Key := Finset.univ ×ˢ Finset.univ ×ˢ Finset.range 16

@[irreducible] def cellsInv : sProp 𝕄 := bigSep Finset.univ fun x : Dev nD × Fin 15 => iprop(∃ κ, cellInv ER (Rd (F := F) xb) κ (kcell x))
@[irreducible] def slotsInv : sProp 𝕄 := bigSep keys fun k : Key => iprop(∃ ι, slotInv ES ι k (slotOf (F := F) k))
@[irreducible] def reached0 : sProp 𝕄 := bigSep Finset.univ fun x : Dev nD × Fin 15 => reached (ER (F := F)) (kcell x) 0

/-- The order of the cells. -/
@[irreducible] def Levels : sProp 𝕄 := levAts L lv

instance levels_persistent : BI.Persistent (Levels (F := F)) := by unfold Levels; infer_instance

/-- A wait is allowed when all that is owed comes after it. -/
theorem levels_mayWait (c : Dev nD) (sm : SemLoc sig) (i : ℕ) (O : CellTallies nD τ sig ℕ) (hi : i < 16)
    (hO : Above (lv ((c : Thread nD τ), sm) i) O) : Levels (F := F) ⊢ MayWait (c : Thread nD τ) sm i O := by
  unfold Levels; exact mayWait c sm i O hi hO

/-- The invariants of all cells and slots, and the order of the cells. -/
@[irreducible] def Know : sProp 𝕄 := iprop(cellsInv xb ∗ slotsInv (F := F) ∗ reached0 (F := F) ∗ Levels (F := F))

instance know_persistent : BI.Persistent (Know (F := F) xb) := by unfold Know cellsInv slotsInv reached0; infer_instance

/-- The levels are among what is known. -/
theorem know_levels : Know (F := F) xb ⊢ Levels := by unfold Know; iintro ⟨-, -, -, H⟩; iexact H

/-- A wait is allowed when all that is owed comes after it. -/
theorem know_mayWait (c : Dev nD) (sm : SemLoc sig) (i : ℕ) (O : CellTallies nD τ sig ℕ) (hi : i < 16)
    (hO : Above (lv ((c : Thread nD τ), sm) i) O) : Know (F := F) xb ⊢ MayWait (c : Thread nD τ) sm i O :=
  by
  refine BI.Entails.trans (know_levels xb) ?_
  exact levels_mayWait c sm i O hi hO

/-- So is the invariant of every cell. -/
theorem know_cell (c : Dev nD) (sm : SemLoc sig) (h : ∃ i, asem i = sm) :
    Know (F := F) xb ⊢ iprop(∃ κ, cellInv ER (Rd (F := F) xb) κ ((c : Thread nD τ), sm)) := by
  obtain ⟨i, rfl⟩ := h
  have h : cellsInv (F := F) xb ⊢ iprop(∃ κ, cellInv ER (Rd (F := F) xb) κ ((c : Thread nD τ), asem i)) := by
    unfold cellsInv; exact bigSep_elim (Finset.mem_univ (c, i))
  unfold Know
  iintro ⟨H, -⟩
  iapply h $$ H

/-- Every cell has reached its round 0. -/
theorem know_reached (c : Dev nD) (sm : SemLoc sig) (h : ∃ i, asem i = sm) :
    Know (F := F) xb ⊢ reached ER ((c : Thread nD τ), sm) 0 := by
  obtain ⟨i, rfl⟩ := h
  have h : reached0 (F := F) ⊢ reached ER ((c : Thread nD τ), asem i) 0 := by
    unfold reached0; exact bigSep_elim (Finset.mem_univ (c, i))
  unfold Know
  iintro ⟨-, -, H, -⟩
  iapply h $$ H

/-- The invariant of every slot is known. -/
theorem know_slot (a : Bool) (c : Dev nD) (h : ℕ) (hh : h < H a) :
    Know (F := F) xb ⊢ iprop(∃ ι, slotInv ES ι (c, a, h) (slotOf (F := F) (c, a, h))) := by
  have hm : ((c, a, h) : Key) ∈ keys := by
    unfold keys
    simp only [Finset.mem_product, Finset.mem_univ, Finset.mem_range, true_and]
    exact lt_of_lt_of_le hh (H_le a)
  have h : slotsInv (F := F) ⊢ iprop(∃ ι, slotInv ES ι (c, a, h) (slotOf (F := F) (c, a, h))) := by
    unfold slotsInv; exact bigSep_elim hm
  unfold Know
  iintro ⟨-, H, -⟩
  iapply h $$ H

/-! ## Facts about the slots -/

/-- A slot's transfer counts for `N`. -/
theorem slotM_credit (a : Bool) (j : Fin 3) : (slotM a j).view.dmaCredit = N := by
  cases a <;> (fin_cases j <;> rfl)

/-- So does what it sends from. -/
theorem srcM_credit (a : Bool) (h : ℕ) : (srcM a h).view.dmaCredit = N := by
  cases h with
  | zero => rfl
  | succ h => exact slotM_credit a _

/-- A hop is its slot and its round. -/
theorem sl_div (h : ℕ) : 3 * (h / 3) + (sl h).val = h := Nat.div_add_mod h 3

/-! ## What the schedule says of each cell -/

/-- A sender's completion has one duty in every round that belongs to a hop. -/
theorem duties_snd (a : Bool) (c : Dev nD) (j : Fin 3) (r : ℕ) :
    (Rd (F := F) xb).duties (sndC a c j) r = if 3 * r + j.val < H a then {0} else ∅ := by
  show Cert.Ring.duties (sndC a c j) r = _; unfold Cert.Ring.duties; rw [role_snd]
/-- So has a receiver's. -/
theorem duties_rcv (a : Bool) (c : Dev nD) (j : Fin 3) (r : ℕ) :
    (Rd (F := F) xb).duties (rcvC a c j) r = if 3 * r + j.val < H a then {0} else ∅ := by
  show Cert.Ring.duties (rcvC a c j) r = _; unfold Cert.Ring.duties; rw [role_rcv]
/-- The credit counter has all its duties in round 0. -/
theorem duties_crd (a : Bool) (c : Dev nD) (r : ℕ) :
    (Rd (F := F) xb).duties (crdC a c) r = if r = 0 then Finset.range (C a) else ∅ := by
  show Cert.Ring.duties (crdC a c) r = _; unfold Cert.Ring.duties; rw [role_crd]
/-- The barrier has two duties, in round 0. -/
theorem duties_bar (c : Dev nD) (r : ℕ) :
    (Rd (F := F) xb).duties (barC c) r = if r = 0 then {0, 1} else ∅ := by
  show Cert.Ring.duties (barC c) r = _; unfold Cert.Ring.duties; rw [role_bar]

/-- What a sender's completion is paid. -/
theorem amount_snd (a : Bool) (c : Dev nD) (j : Fin 3) (r d : ℕ) : (Rd (F := F) xb).amount (sndC a c j) r d = N := by
  show Cert.Ring.amount (sndC a c j) r d = _; unfold Cert.Ring.amount; rw [role_snd]
/-- What a receiver's completion is paid. -/
theorem amount_rcv (a : Bool) (c : Dev nD) (j : Fin 3) (r d : ℕ) : (Rd (F := F) xb).amount (rcvC a c j) r d = N := by
  show Cert.Ring.amount (rcvC a c j) r d = _; unfold Cert.Ring.amount; rw [role_rcv]
/-- A credit is one unit. -/
theorem amount_crd (a : Bool) (c : Dev nD) (r d : ℕ) : (Rd (F := F) xb).amount (crdC a c) r d = 1 := by
  show Cert.Ring.amount (crdC a c) r d = _; unfold Cert.Ring.amount; rw [role_crd]
/-- A barrier signal is one unit. -/
theorem amount_bar (c : Dev nD) (r d : ℕ) : (Rd (F := F) xb).amount (barC c) r d = 1 := by
  show Cert.Ring.amount (barC c) r d = _; unfold Cert.Ring.amount; rw [role_bar]

/-- A sender's completion hands back the share that was read. -/
theorem payload_snd (a : Bool) (c : Dev nD) (h : ℕ) (d : ℕ) :
    (Rd (F := F) xb).payload (sndC a c (sl h)) (h / 3) d = owns (c : Thread nD τ) (srcM a h) (shr a h) (xb (org a c h)) := by
  show Cert.Ring.payload xb (sndC a c (sl h)) (h / 3) d = _; unfold Cert.Ring.payload; rw [role_snd]; show owns (c : Thread nD τ) (srcM a (3 * (h / 3) + (sl h).val)) (shr a (3 * (h / 3) + (sl h).val)) (xb (org a c (3 * (h / 3) + (sl h).val))) = _
  rw [sl_div]
/-- A landing hands over the slot with the block that arrived. -/
theorem payload_rcv (a : Bool) (c : Dev nD) (h : ℕ) (d : ℕ) :
    (Rd (F := F) xb).payload (rcvC a c (sl h)) (h / 3) d = owns (c : Thread nD τ) (slotM a (sl h)) fullShare (xb (org a c (h + 1))) := by
  show Cert.Ring.payload xb (rcvC a c (sl h)) (h / 3) d = _; unfold Cert.Ring.payload; rw [role_rcv]; show owns (c : Thread nD τ) (slotM a (sl h)) _ (xb (org a c (3 * (h / 3) + (sl h).val + 1))) = _
  rw [sl_div]
/-- A credit hands over that the hops so far may land. -/
theorem payload_crd (a : Bool) (c : Dev nD) (r d : ℕ) :
    (Rd (F := F) xb).payload (crdC a c) r d = freeTo a (up a c) (d + 4) := by
  show Cert.Ring.payload xb (crdC a c) r d = _; unfold Cert.Ring.payload; rw [role_crd]
/-- A barrier signal hands over that the first three hops may land. -/
theorem payload_bar (a : Bool) (c : Dev nD) (r : ℕ) :
    (Rd (F := F) xb).payload (barC c) r (bd a) = freeTo a (up a c) 3 := by
  show Cert.Ring.payload xb (barC c) r (bd a) = _; unfold Cert.Ring.payload; rw [role_bar]; cases a <;> rfl

/-- The duty of one hop at the sender. -/
theorem duties_snd_hop (a : Bool) (c : Dev nD) (h : ℕ) (hh : h < H a) : (Rd (F := F) xb).duties (sndC a c (sl h)) (h / 3) = {0} := by
  rw [duties_snd, sl_div, if_pos hh]
/-- The duty of one hop at the receiver. -/
theorem duties_rcv_hop (a : Bool) (c : Dev nD) (h : ℕ) (hh : h < H a) : (Rd (F := F) xb).duties (rcvC a c (sl h)) (h / 3) = {0} := by
  rw [duties_rcv, sl_div, if_pos hh]

/-- A sender's round is one transfer. -/
theorem expect_snd (a : Bool) (c : Dev nD) (h : ℕ) (hh : h < H a) : (Rd (F := F) xb).expect (sndC a c (sl h)) (h / 3) = N := by
  unfold Schedule.expect; rw [duties_snd_hop xb a c h hh, Schedule.amountOf, Finset.sum_singleton, amount_snd]
/-- A receiver's round is one transfer. -/
theorem expect_rcv (a : Bool) (c : Dev nD) (h : ℕ) (hh : h < H a) : (Rd (F := F) xb).expect (rcvC a c (sl h)) (h / 3) = N := by
  unfold Schedule.expect; rw [duties_rcv_hop xb a c h hh, Schedule.amountOf, Finset.sum_singleton, amount_rcv]
/-- The credits' round is all the credits. -/
theorem expect_crd (a : Bool) (c : Dev nD) : (Rd (F := F) xb).expect (crdC a c) 0 = C a := by
  unfold Schedule.expect Schedule.amountOf
  rw [duties_crd, if_pos rfl, Finset.sum_congr rfl (fun d _ => amount_crd xb a c 0 d), Finset.sum_const, Finset.card_range, smul_eq_mul, Nat.mul_one]

/-! ## Owing -/

/-- Device `c` owes `O`, whatever it has waited for. -/
def owesE (c : Dev nD) (O : CellTallies nD τ sig ℕ) : sProp 𝕄 := iprop(∃ W, owes (c : Thread nD τ) O W)

/-! ## The transfers -/

/-- Sending hop `h`: it may land, and its source is held at the hop's share. -/
theorem wp_send (a : Bool) (c : Dev nD) (h k : ℕ) (O : CellTallies nD τ sig ℕ) (hh : h < H a) :
    iprop(Know xb ∗ free a (up a c) h ∗ owns (c : Thread nD τ) (srcM a h) (shr a h) (xb (org a c h))
        ∗ dutyTok ER (sndC a c (sl h)) (h / 3) 0 ∗ dutyTok ER (rcvC a (up a c) (sl h)) (h / 3) 0 ∗ writeTok ES (up a c, a, h) 1
        ∗ reached ER (sndC a c (sl h)) (h / 3) ∗ owesE c (owed a c h k + O))
      ⊢ WP c (send a c h) iprop(cred (tallyAt (sndC a c (sl h)) 0 N) ∗ owesE (F := F) c (owed a c (h + 1) k + O)) := by
  unfold free owns owesE
  iintro ⟨#HK, #⟨Hrel, Hr2⟩, Hsrc, Ht1, Ht2, Hw, #Hr1, ⟨%W, HO⟩⟩
  unfold send
  simp only [Prog.lift]
  ihave #HI1 := (know_cell xb c _ (asem_snd a (sl h))) $$ HK
  ihave #HI2 := (know_cell xb (up a c) _ (asem_rcv a (sl h))) $$ HK
  ihave #HIS := (know_slot xb a (up a c) h hh) $$ HK
  icases HI1 with ⟨%κ₁, #HI1⟩
  icases HI2 with ⟨%κ₂, #HI2⟩
  icases HIS with ⟨%ι, #HIS⟩
  icases Hsrc with ⟨%fs, %hfs, Hsrc⟩
  iapply (fupd_wp frame (wpE (defs₀ (F := F)) 𝒱₀ (c : Thread nD τ) none) Set.univ)
  imod (slot_take ES (Es := Set.univ) (Set.mem_univ ι) 1) $$ [Hw] with Hslot
  · isplitr; · iexact HIS
    isplitr; · iexact Hrel
    iexact Hw
  imodintro
  ihave Hslot := (Entails.of_eq (slotOf_eq (F := F) a (up a c) h)) $$ Hslot
  icases Hslot with ⟨%fd, Hslot⟩
  have hp1 : ((srcM a h).view.loc (c : Thread nD τ) ↦[(srcM a h).view.set]{shr a h} fs)
      ⊢ (Rd (F := F) xb).payload (sndC a c (sl h)) (h / 3) 0 := by
    rw [payload_snd]; unfold owns; iintro H; iexists fs
    isplitr; · ipureintro; exact hfs
    iexact H
  have hp2 : ((slotM a (sl h)).view.loc (up a c : Thread nD τ) ↦[(slotM a (sl h)).view.set]{fullShare}
        ((slotM a (sl h)).view.write (Elt F) fd ((srcM a h).view.read (Elt F) fs) Finset.univ))
      ⊢ (Rd (F := F) xb).payload (rcvC a (up a c) (sl h)) (h / 3) 0 := by
    rw [payload_rcv, org_up]; unfold owns; iintro H
    iexists ((slotM a (sl h)).view.write (Elt F) fd ((srcM a h).view.read (Elt F) fs) Finset.univ)
    isplitr; · ipureintro; rw [View.read_write_univ, hfs]
    iexact H
  have hO : owed a c h k + O = owed a c (h + 1) k + O + tallyAt (rcvC a (up a c) (sl h)) h N := by
    rw [owed_hop a c h k hh]; exact add_right_comm _ _ _
  iapply (Rounds.wp_send_pointsTo 𝒱₀ ER (Rd xb) (c : Thread nD τ) none (κ₁ := κ₁) (κ₂ := κ₂) (c' := (up a c : Thread nD τ))
      (src := srcM a h) (dst := slotM a (sl h)) (sS := .dma (sndS a (sl h))) (sem := .dma (rcvS a (sl h)))
      (r₁ := h / 3) (r₂ := h / 3) (d₁ := 0) (d₂ := 0) (fs := fs) (fd := fd) (q := shr a h)
      (by rw [duties_snd_hop xb a c h hh]; exact Finset.mem_singleton_self _)
      (by rw [duties_rcv_hop xb a (up a c) h hh]; exact Finset.mem_singleton_self _)
      h 0 N (slotM_credit a (sl h)) (amount_snd xb a c _ _ _) (amount_rcv xb a _ _ _ _)
      (owed a c (h + 1) k + O) hO (W := W) hp1 hp2) $$ [Hsrc Hslot HO Ht1 Ht2]
  · isplitr; · iexact HI1
    isplitr; · iexact HI2
    isplitl [Hsrc]; · iexact Hsrc
    isplitl [Hslot]; · iexact Hslot
    isplitl [HO]; · iexact HO
    isplitl [Ht1]; · iexact Ht1
    isplitr; · iexact Hr1
    isplitl [Ht2]; · iexact Ht2
    iexact Hr2
  iintro ⟨Hc, HO⟩
  rw [wp_ret]; imodintro
  isplitl [Hc]; · iexact Hc
  iexists W; iexact HO

/-- Taking the block that hop `h` brings. -/
theorem wp_recv (a : Bool) (c : Dev nD) (h : ℕ) (O : CellTallies nD τ sig ℕ) (hh : h < H a) (hO : Above (2 * h + 2) O) :
    iprop(Know xb ∗ cred (tallyAt (rcvC a c (sl h)) h N) ∗ owesE c O ∗ atPos ER (rcvC a c (sl h)) (h / 3) ∅ 0)
      ⊢ WP c (Prog.lift (.waitDma2 (rcvS a (sl h)) (slotM a (sl h)) (slotM a (sl h)) (slotM_exact _ _) (slotM_exact _ _)))
          iprop(owesE (F := F) c O ∗ atPos ER (rcvC a c (sl h)) (h / 3 + 1) ∅ 0 ∗ reached ER (rcvC a c (sl h)) (h / 3 + 1)
            ∗ owns (c : Thread nD τ) (slotM a (sl h)) fullShare (xb (org a c (h + 1)))) := by
  unfold owesE
  iintro ⟨#HK, Hc, ⟨%W, HO⟩, Hat⟩
  simp only [Prog.lift]
  ihave #HI := (know_cell xb c _ (asem_rcv a (sl h))) $$ HK
  icases HI with ⟨%κ, #HI⟩
  have hN : (slotM a (sl h)).view.dmaCredit = N := slotM_credit a (sl h)
  iapply (Rounds.wp_wait_rest_token 𝒱₀ ER (Rd xb) (c : Thread nD τ) none (κ := κ)
      (wpE_waitDma2_eq 𝒱₀ (c : Thread nD τ) none Set.univ) (Set.mem_univ _) h (O := O) (W := W) (R := h / 3) (m := 0) (T := ∅)
      (by rw [expect_rcv xb a c h hh, Nat.zero_add, hN])) $$ [Hc HO Hat]
  · isplitr; · iexact HI
    isplitl [Hc]; · rw [hN]; iexact Hc
    isplitl [HO]; · iexact HO
    isplitr
    · iapply (know_mayWait xb c (.dma (rcvS a (sl h))) h O (lt_of_lt_of_le hh (H_le a)) (by rw [lv_rcv]; exact hO)) $$ HK
    iexact Hat
  rw [duties_rcv_hop xb a c h hh, Finset.sdiff_empty, bigSep_singleton, payload_rcv]
  iintro ⟨HO, Hat, #Hr, Hp⟩
  rw [wp_ret]; imodintro
  isplitl [HO]; · iexists _; iexact HO
  isplitl [Hat]; · iexact Hat
  isplitr; · iexact Hr
  iexact Hp

/-- Waiting for the device's own hop `h`: its source comes back. -/
theorem wp_sent (a : Bool) (c : Dev nD) (h : ℕ) (O : CellTallies nD τ sig ℕ) (hh : h < H a) (hO : Above 0 O) :
    iprop(Know xb ∗ cred (tallyAt (sndC a c (sl h)) 0 N) ∗ owesE c O ∗ atPos ER (sndC a c (sl h)) (h / 3) ∅ 0)
      ⊢ WP c (Prog.lift (.waitDma2 (sndS a (sl h)) (slotM a (sl h)) (srcM a h) (slotM_exact _ _) (srcM_exact _ _)))
          iprop(owesE (F := F) c O ∗ atPos ER (sndC a c (sl h)) (h / 3 + 1) ∅ 0 ∗ reached ER (sndC a c (sl h)) (h / 3 + 1)
            ∗ owns (c : Thread nD τ) (srcM a h) (shr a h) (xb (org a c h))) := by
  unfold owesE
  iintro ⟨#HK, Hc, ⟨%W, HO⟩, Hat⟩
  simp only [Prog.lift]
  ihave #HI := (know_cell xb c _ (asem_snd a (sl h))) $$ HK
  icases HI with ⟨%κ, #HI⟩
  have hN : (srcM a h).view.dmaCredit = N := srcM_credit a h
  iapply (Rounds.wp_wait_rest_token 𝒱₀ ER (Rd xb) (c : Thread nD τ) none (κ := κ)
      (wpE_waitDma2_eq 𝒱₀ (c : Thread nD τ) none Set.univ) (Set.mem_univ _) 0 (O := O) (W := W) (R := h / 3) (m := 0) (T := ∅)
      (by rw [expect_snd xb a c h hh, Nat.zero_add, hN])) $$ [Hc HO Hat]
  · isplitr; · iexact HI
    isplitl [Hc]; · rw [hN]; iexact Hc
    isplitl [HO]; · iexact HO
    isplitr
    · iapply (know_mayWait xb c (.dma (sndS a (sl h))) 0 O (by decide) (by rw [lv_snd]; exact hO)) $$ HK
    iexact Hat
  rw [duties_snd_hop xb a c h hh, Finset.sdiff_empty, bigSep_singleton, payload_snd]
  iintro ⟨HO, Hat, #Hr, Hp⟩
  rw [wp_ret]; imodintro
  isplitl [HO]; · iexists _; iexact HO
  isplitl [Hat]; · iexact Hat
  isplitr; · iexact Hr
  iexact Hp

/-! ## The barrier and the credits -/

/-- Telling a neighbour's barrier that the first three hops may land here. -/
theorem wp_report (a : Bool) (c : Dev nD) (O : CellTallies nD τ sig ℕ) :
    iprop(Know xb ∗ owesE c (O + owedBar a c) ∗ dutyTok ER (barC (dn a c)) 0 (bd a) ∗ freeTo a c 3)
      ⊢ WP c (semSignalWord (dn a c) barS 1#32) (owesE (F := F) c O) := by
  unfold owesE
  iintro ⟨#HK, ⟨%W, HO⟩, Ht, Hp⟩
  simp only [semSignalWord, Prog.lift]
  ihave #HI := (know_cell xb (dn a c) _ asem_bar) $$ HK
  icases HI with ⟨%κ, #HI⟩
  ihave #Hr := (know_reached xb (dn a c) _ asem_bar) $$ HK
  iapply (Rounds.wp_signal 𝒱₀ ER (Rd xb) (c : Thread nD τ) none (dst := (dn a c : Thread nD τ)) (κ := κ) (r := 0) (d := bd a)
      (by rw [duties_bar, if_pos rfl]; cases a <;> decide)
      ((amount_bar xb (dn a c) 0 (bd a)).trans (by decide)) 0 O rfl (W := W)) $$ [HO Ht Hp]
  · isplitr; · iexact HI
    isplitl [HO]; · iexact HO
    isplitl [Ht]; · iexact Ht
    isplitl [Hp]; · rw [payload_bar, up_dn]; iexact Hp
    iexact Hr
  iintro HO
  rw [wp_ret]; imodintro
  iexists W; iexact HO

/-- Passing the barrier: the first three hops of both directions may land on the neighbours. -/
theorem wp_barrier (c : Dev nD) (O : CellTallies nD τ sig ℕ) (hO : Above 1 O) :
    iprop(Know xb ∗ cred (tallyAt (barC c) 0 2) ∗ owesE c O ∗ atPos ER (barC c) 0 ∅ 0)
      ⊢ WP c (semWaitWord barS 2#32)
          iprop(owesE (F := F) c O ∗ atPos ER (barC c) 1 ∅ 0 ∗ freeTo true (up true c) 3 ∗ freeTo false (up false c) 3) := by
  unfold owesE
  iintro ⟨#HK, Hc, ⟨%W, HO⟩, Hat⟩
  simp only [semWaitWord, Prog.lift]
  ihave #HI := (know_cell xb c _ asem_bar) $$ HK
  icases HI with ⟨%κ, #HI⟩
  have hE : (Rd (F := F) xb).expect (barC c) 0 = 2 := by
    unfold Schedule.expect Schedule.amountOf
    rw [duties_bar, if_pos rfl, Finset.sum_congr rfl (fun d _ => amount_bar xb c 0 d), Finset.sum_const]; rfl
  iapply (Rounds.wp_wait_rest_token 𝒱₀ ER (Rd xb) (c : Thread nD τ) none (κ := κ)
      (wpE_semWait_eq 𝒱₀ (c : Thread nD τ) none Set.univ) (Set.mem_univ _) 0 (O := O) (W := W) (R := 0) (m := 0) (T := ∅)
      (by rw [hE]; decide)) $$ [Hc HO Hat]
  · isplitr; · iexact HI
    isplitl [Hc]; · iexact Hc
    isplitl [HO]; · iexact HO
    isplitr
    · iapply (know_mayWait xb c (.reg barS) 0 O (by decide) (by rw [lv_bar]; exact hO)) $$ HK
    iexact Hat
  have h1 : (Rd (F := F) xb).payload (barC c) 0 0 = freeTo true (up true c) 3 := payload_bar xb true c 0
  have h2 : (Rd (F := F) xb).payload (barC c) 0 1 = freeTo false (up false c) 3 := payload_bar xb false c 0
  rw [duties_bar, if_pos rfl, Finset.sdiff_empty, bigSep_insert (by decide), bigSep_singleton, h1, h2]
  iintro ⟨HO, Hat, -, Hp⟩
  ihave Hp := (sep_split (freeTo (F := F) true (up true c) 3) (freeTo false (up false c) 3)) $$ Hp
  icases Hp with ⟨Hp1, Hp2⟩
  rw [wp_ret]; imodintro
  isplitl [HO]; · iexists _; iexact HO
  isplitl [Hat]; · iexact Hat
  isplitl [Hp1]; · iexact Hp1
  iexact Hp2

/-- Giving credit `k`: the first `k + 4` hops may land here. -/
theorem wp_give (a : Bool) (c : Dev nD) (h k : ℕ) (O : CellTallies nD τ sig ℕ) (hk : k < C a) :
    iprop(Know xb ∗ owesE c (owed a c h k + O) ∗ dutyTok ER (crdC a (dn a c)) 0 k ∗ freeTo a c (k + 4))
      ⊢ WP c (semSignalWord (dn a c) (crdS a) 1#32) (owesE (F := F) c (owed a c h (k + 1) + O)) := by
  unfold owesE
  iintro ⟨#HK, ⟨%W, HO⟩, Ht, Hp⟩
  simp only [semSignalWord, Prog.lift]
  ihave #HI := (know_cell xb (dn a c) _ (asem_crd a)) $$ HK
  icases HI with ⟨%κ, #HI⟩
  ihave #Hr := (know_reached xb (dn a c) _ (asem_crd a)) $$ HK
  have hO : owed a c h k + O = owed a c h (k + 1) + O + tallyAt (crdC a (dn a c)) k 1 := by
    rw [owed_credit a c h k hk]; exact add_right_comm _ _ _
  iapply (Rounds.wp_signal 𝒱₀ ER (Rd xb) (c : Thread nD τ) none (dst := (dn a c : Thread nD τ)) (κ := κ) (r := 0) (d := k)
      (by rw [duties_crd, if_pos rfl]; exact Finset.mem_range.mpr hk)
      ((amount_crd xb a (dn a c) 0 k).trans (by decide)) k (owed a c h (k + 1) + O) hO (W := W)) $$ [HO Ht Hp]
  · isplitr; · iexact HI
    isplitl [HO]; · iexact HO
    isplitl [Ht]; · iexact Ht
    isplitl [Hp]; · rw [payload_crd, up_dn]; iexact Hp
    iexact Hr
  iintro HO
  rw [wp_ret]; imodintro
  iexists W; iexact HO

/-- Position of the credit cell after `k` credits: which have come is open, what they said is kept. -/
def creditPos (a : Bool) (c : Dev nD) (k : ℕ) : sProp 𝕄 :=
  if C a ≤ k then atPos ER (crdC a c) 1 ∅ 0
  else iprop(∃ S : Finset ℕ, ⌜S ⊆ Finset.range (C a) ∧ k ≤ S.card⌝ ∗ atPos ER (crdC a c) 0 S k
    ∗ bigSep S fun d => freeTo (F := F) a (up a c) (d + 4))

/-- Fewer hops may land when more may. -/
theorem freeTo_le (a : Bool) (c : Dev nD) {m n : ℕ} (h : m ≤ n) : freeTo (F := F) a c n ⊢ freeTo a c m :=
  bigSep_subset (Finset.range_subset_range.mpr h)

/-- Each of the hops so far may land. -/
theorem freeTo_get (a : Bool) (c : Dev nD) {m n : ℕ} (h : m < n) : freeTo (F := F) a c n ⊢ free a c m :=
  bigSep_elim (Finset.mem_range.mpr h)

/-- One hop more. -/
theorem freeTo_succ (a : Bool) (c : Dev nD) (n : ℕ) : iprop(freeTo (F := F) a c n ∗ free a c n) ⊢ freeTo a c (n + 1) := by
  unfold freeTo
  rw [Finset.range_add_one, bigSep_insert Finset.notMem_range_self]
  exact sep_comm.1

/-- Among `k + 1` different numbers one is at least `k`. -/
theorem exists_ge {S : Finset ℕ} {k : ℕ} (h : k + 1 ≤ S.card) : ∃ d ∈ S, k ≤ d := by
  by_contra hn
  push Not at hn
  have hs : S ⊆ Finset.range k := fun d hd => Finset.mem_range.mpr (hn d hd)
  have := Finset.card_le_card hs
  rw [Finset.card_range] at this
  omega

/-- Among the credits that have come one says that `k + 4` hops may land. -/
theorem credit_says (a : Bool) (c : Dev nD) {S : Finset ℕ} {k : ℕ} (h : k + 1 ≤ S.card) :
    (bigSep S fun d => freeTo (F := F) a c (d + 4)) ⊢ freeTo a c (k + 4) := by
  obtain ⟨d, hd, hk⟩ := exists_ge h
  exact (bigSep_elim hd).trans (freeTo_le a c (by omega))

/-- A debt of one kind at one cell. -/
theorem tally_single (g : GSem nD τ sig) (ι k : ℕ) : (tallyAt g ι k : CellTallies nD τ sig ℕ) = tallyOn g (Finsupp.single ι k) := rfl

/-- Taking the `k`-th credit. -/
theorem wp_credit (a : Bool) (c : Dev nD) (k : ℕ) (O : CellTallies nD τ sig ℕ) (hk : k < C a) (hO : Above (2 * k + 5) O) :
    iprop(Know xb ∗ cred (tallyAt (crdC a c) k 1) ∗ owesE c O ∗ creditPos a c k)
      ⊢ WP c (semWaitWord (crdS a) 1#32) iprop(owesE (F := F) c O ∗ creditPos a c (k + 1) ∗ freeTo a (up a c) (k + 4)) := by
  have hH := H_le a
  have hC : C a = H a - 3 := rfl
  unfold owesE creditPos
  rw [if_neg (Nat.not_le.mpr hk)]
  iintro ⟨#HK, Hc, ⟨%W, HO⟩, ⟨%S, %hS, Hat, #HS⟩⟩
  obtain ⟨hSr, hSc⟩ := hS
  simp only [semWaitWord, Prog.lift]
  ihave #HI := (know_cell xb c _ (asem_crd a)) $$ HK
  icases HI with ⟨%κ, #HI⟩
  have hpay : (fun d => (Rd (F := F) xb).payload (crdC a c) 0 d) = fun d => freeTo a (up a c) (d + 4) :=
    funext fun d => payload_crd xb a c 0 d
  by_cases hl : k + 1 = C a
  · rw [if_pos (le_of_eq hl.symm)]
    iapply (Rounds.wp_wait_rest_token 𝒱₀ ER (Rd xb) (c : Thread nD τ) none (κ := κ)
        (wpE_semWait_eq 𝒱₀ (c : Thread nD τ) none Set.univ) (Set.mem_univ _) k (O := O) (W := W) (R := 0) (m := k) (T := S)
        (by rw [expect_crd]; exact hl)) $$ [Hc HO Hat]
    · isplitr; · iexact HI
      isplitl [Hc]; · iexact Hc
      isplitl [HO]; · iexact HO
      isplitr
      · iapply (know_mayWait xb c (.reg (crdS a)) k O (by omega) (by rw [lv_crd]; exact hO)) $$ HK
      iexact Hat
    rw [duties_crd, if_pos rfl, hpay]
    iintro ⟨HO, Hat, -, #Hp⟩
    rw [wp_ret]; imodintro
    isplitl [HO]; · iexists _; iexact HO
    isplitl [Hat]; · iexact Hat
    iapply (credit_says (F := F) a (up a c) (S := Finset.range (C a)) (k := k) (by rw [Finset.card_range, hl]))
    iapply (subset_join (fun d => freeTo (F := F) a (up a c) (d + 4)) hSr)
    isplitr; · iexact HS
    iexact Hp
  · rw [if_neg (by omega)]
    iapply (Rounds.wp_wait 𝒱₀ ER (Rd xb) (c : Thread nD τ) none (κ := κ)
        (wpE_semWait_eq 𝒱₀ (c : Thread nD τ) none Set.univ) (Set.mem_univ _) (cr := Finsupp.single k 1) (O := O) (W := W)
        {(.reg (crdS a), k)} (R := 0) (m := k) (T := S) (by rw [Util.total_single]; rfl)
        (image_single_subset (.reg (crdS a)) k 1)) $$ [Hc HO Hat]
    · isplitr; · iexact HI
      isplitl [Hc]; · iexact Hc
      isplitl [HO]; · iexact HO
      isplitr
      · iapply (know_mayWait xb c (.reg (crdS a)) k O (by omega) (by rw [lv_crd]; exact hO)) $$ HK
      iexact Hat
    rw [duties_crd, if_pos rfl, expect_crd, hpay]
    iintro %S' ⟨%hS', HO, Hat, #Hp⟩
    obtain ⟨hSS, hSr', hcard⟩ := hS'
    have hc' : k + 1 ≤ S'.card := by
      rw [Finset.card_sdiff_of_subset hSr', Finset.card_range] at hcard
      have := Finset.card_le_card hSr'
      rw [Finset.card_range] at this
      have hone : (1#32 : BitVec 32).toNat = 1 := by decide
      omega
    rw [wp_ret]; imodintro
    ihave #Hall : (bigSep S' fun d => freeTo (F := F) a (up a c) (d + 4)) $$ []
    · iapply (subset_join (fun d => freeTo (F := F) a (up a c) (d + 4)) hSS)
      isplitr; · iexact HS
      iexact Hp
    isplitl [HO]; · iexists _; iexact HO
    isplitl [Hat]
    · iexists S'
      isplitr; · ipureintro; exact ⟨hSr', hc'⟩
      isplitl [Hat]; · iexact Hat
      iexact Hall
    iapply (credit_says (F := F) a (up a c) hc') $$ Hall

end Cert.Ring
-- ==== Proof.State.lean ====
/-
# Steps of one direction

`Dir xb a c s` is what device `c` holds for direction `a` when step `s` starts, `Mid` what it holds between a step's
first and second piece. `wp_forward` and `wp_retire` take the one to the other and on to the next step.
-/
module

public import proofs.«01_k».proof.Proof.Rules

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (xb : Dev nD → S128x4096.Idx → Elt F .f32)

/-! ## Shares of a block -/

/-- A held array splits into two shares. -/
theorem owns_split (c : Dev nD) {s : Shape} (m : Memref sig .tc .vmem s .f32) (q : PosShare TreeShare) (X : s.Idx → Elt F .f32) :
    (owns (c : Thread nD τ) m q X : sProp 𝕄) ⊢ iprop(owns (c : Thread nD τ) m q.left X ∗ owns (c : Thread nD τ) m q.right X) := by
  unfold owns
  iintro ⟨%f, %hf, H⟩
  ihave H := (pointsTo_share (PosShare.mem_left_op_right q)).1 $$ H
  icases H with ⟨H1, H2⟩
  isplitl [H1]
  · iexists f; isplitr; · ipureintro; exact hf
    iexact H1
  · iexists f; isplitr; · ipureintro; exact hf
    iexact H2

/-- Two shares of a held array join; the contents are those of either. -/
theorem owns_join (c : Dev nD) {s : Shape} (m : Memref sig .tc .vmem s .f32) (q : PosShare TreeShare) (X Y : s.Idx → Elt F .f32) :
    iprop(owns (c : Thread nD τ) m q.left X ∗ owns (c : Thread nD τ) m q.right Y) ⊢ (owns (c : Thread nD τ) m q X : sProp 𝕄) := by
  unfold owns
  iintro ⟨⟨%f, %hf, H1⟩, ⟨%g, -, H2⟩⟩
  ihave H := (persistent_entails_right (pointsTo_agree (ℓ := m.view.loc (c : Thread nD τ)) (q₁ := q.left) (q₂ := q.right) (f := f) (g := g) (I := m.view.set) (J := m.view.set))) $$ [H1 H2]
  · isplitl [H1]; · iexact H1
    iexact H2
  icases H with ⟨%h, H1, H2⟩
  have he : (m.view.loc (c : Thread nD τ) ↦[m.view.set]{q.right} g : sProp 𝕄) ⊢ (m.view.loc (c : Thread nD τ) ↦[m.view.set]{q.right} f : sProp 𝕄) :=
    Entails.of_eq (pointsTo_congr fun i hi => (h i (Finset.mem_inter.mpr ⟨hi, hi⟩)).1.symm)
  iexists f
  isplitr; · ipureintro; exact hf
  iapply (pointsTo_share (PosShare.mem_left_op_right q)).2
  isplitl [H1]; · iexact H1
  iapply he $$ H2

/-! ## Positions of a direction's three slots -/

/-- How many of the hops before `s` use slot `j`. -/
def rnd (s : ℕ) (j : Fin 3) : ℕ := (s + 2 - j.val) / 3

/-- The round of the slot in use. -/
theorem rnd_sl (s : ℕ) : rnd s (sl s) = s / 3 := by unfold rnd sl; dsimp only; omega
/-- The slot in use moves to its next round. -/
theorem rnd_succ_sl (s : ℕ) : rnd (s + 1) (sl s) = s / 3 + 1 := by unfold rnd sl; dsimp only; omega
/-- The other slots stay in theirs. -/
theorem rnd_succ_ne (s : ℕ) (j : Fin 3) (h : j ≠ sl s) : rnd (s + 1) j = rnd s j := by
  have h' : j.val ≠ s % 3 := fun e => h (Fin.ext e)
  have := j.isLt
  unfold rnd; omega

/-- The device's place in each of three cells, one per slot, when step `s` starts. -/
def pos3 (cell : Fin 3 → GSem nD τ sig) (s : ℕ) : sProp 𝕄 :=
  iprop((bigSep Finset.univ fun j => atPos ER (cell j) (rnd s j) ∅ 0) ∗ (bigSep Finset.univ fun j => reached ER (cell j) (rnd s j)))

/-- Taking one member out of all. -/
theorem univ_split {I : Type} [DecidableEq I] [Fintype I] (Φ : I → sProp 𝕄) (i : I) :
    bigSep Finset.univ Φ ⊢ iprop(Φ i ∗ bigSep (Finset.univ.erase i) Φ) := Entails.of_eq (bigSep_erase (Finset.mem_univ i))
/-- Putting it back. -/
theorem univ_join {I : Type} [DecidableEq I] [Fintype I] (Φ : I → sProp 𝕄) (i : I) :
    iprop(Φ i ∗ bigSep (Finset.univ.erase i) Φ) ⊢ bigSep Finset.univ Φ := Entails.of_eq (bigSep_erase (Finset.mem_univ i)).symm

/-- Moving one member of a family on, the others staying. -/
theorem univ_move {I : Type} [DecidableEq I] [Fintype I] (Φ Ψ : I → sProp 𝕄) (i : I) (h : ∀ j, j ≠ i → Φ j = Ψ j) :
    bigSep Finset.univ Φ ⊢ iprop(Φ i ∗ (Ψ i -∗ bigSep Finset.univ Ψ)) := by
  have he : bigSep (Finset.univ.erase i) Φ = bigSep (Finset.univ.erase i) Ψ :=
    bigSep_congr fun j hj => h j (Finset.ne_of_mem_erase hj)
  iintro H
  ihave H := (univ_split Φ i) $$ H
  icases H with ⟨H1, H2⟩
  isplitl [H1]; · iexact H1
  iintro HΨ
  iapply (univ_join Ψ i)
  isplitl [HΨ]; · iexact HΨ
  rw [← he]; iexact H2

/-- The position of the slot in use, and what it takes to give it back advanced. -/
theorem pos3_take (cell : Fin 3 → GSem nD τ sig) (s : ℕ) :
    pos3 (F := F) cell s ⊢ iprop(atPos ER (cell (sl s)) (s / 3) ∅ 0
      ∗ ((atPos ER (cell (sl s)) (s / 3 + 1) ∅ 0 ∗ reached ER (cell (sl s)) (s / 3 + 1)) -∗ pos3 cell (s + 1))) := by
  have h1 := univ_move (fun j => (atPos ER (cell j) (rnd s j) ∅ 0 : sProp 𝕄)) (fun j => atPos ER (cell j) (rnd (s + 1) j) ∅ 0) (sl s)
    (fun j hj => by rw [rnd_succ_ne s j hj])
  have h2 := univ_move (fun j => (reached ER (cell j) (rnd s j) : sProp 𝕄)) (fun j => reached ER (cell j) (rnd (s + 1) j)) (sl s)
    (fun j hj => by rw [rnd_succ_ne s j hj])
  simp only [rnd_sl, rnd_succ_sl] at h1 h2
  unfold pos3
  iintro ⟨Ha, Hr⟩
  ihave Ha := h1 $$ Ha
  ihave Hr := h2 $$ Hr
  icases Ha with ⟨Ha, Ha'⟩
  icases Hr with ⟨-, Hr'⟩
  isplitl [Ha]; · iexact Ha
  iintro ⟨Hb, Hs⟩
  isplitl [Ha' Hb]
  · iapply Ha' $$ Hb
  · iapply Hr' $$ Hs

/-- The next slot has reached its round. -/
theorem pos3_reached (cell : Fin 3 → GSem nD τ sig) (s : ℕ) :
    pos3 (F := F) cell s ⊢ iprop(pos3 cell s ∗ reached ER (cell (sl (s + 1))) ((s + 1) / 3)) := by
  have h : (bigSep Finset.univ fun j => (reached ER (cell j) (rnd s j) : sProp 𝕄)) ⊢ reached ER (cell (sl (s + 1))) (rnd s (sl (s + 1))) :=
    bigSep_elim (Finset.mem_univ _)
  have e : rnd s (sl (s + 1)) = (s + 1) / 3 := by unfold rnd sl; dsimp only; omega
  rw [e] at h
  unfold pos3
  iintro ⟨Ha, #Hr⟩
  isplitl [Ha]
  · isplitl [Ha]; · iexact Ha
    iexact Hr
  iapply h $$ Hr

/-! ## What a direction holds -/

/-- The landings still to come. -/
def recvs (a : Bool) (c : Dev nD) (s : ℕ) : sProp 𝕄 := bigSep (Finset.Ico s (H a)) fun h => cred (tallyAt (rcvC a c (sl h)) h N)

/-- The right to make the hops still to be made. -/
def sends (a : Bool) (c : Dev nD) (s : ℕ) : sProp 𝕄 := bigSep (Finset.Ico s (H a)) fun h =>
  iprop(dutyTok ER (sndC a c (sl h)) (h / 3) 0 ∗ dutyTok ER (rcvC a (up a c) (sl h)) (h / 3) 0 ∗ writeTok ES (up a c, a, h) 1)

/-- The credits still to be taken. -/
def creditsIn (a : Bool) (c : Dev nD) (k : ℕ) : sProp 𝕄 :=
  iprop(creditPos a c k ∗ bigSep (Finset.Ico k (C a)) fun i => cred (tallyAt (crdC a c) i 1))

/-- The right to give the credits still to be given. -/
def creditsOut (a : Bool) (c : Dev nD) (k : ℕ) : sProp 𝕄 := bigSep (Finset.Ico k (C a)) fun i => dutyTok ER (crdC a (dn a c)) 0 i

/-- The first `n` hops may land here; the right to say so of the others. -/
def freed (a : Bool) (c : Dev nD) (n : ℕ) : sProp 𝕄 :=
  iprop((bigSep (Finset.Ico n (H a)) fun h => readerAt ES (c, a, h) 0) ∗ freeTo a c n)

/-- How many hops may land here when step `s` starts. -/
def fr (a : Bool) (s : ℕ) : ℕ := min (max 3 (s + 2)) (H a)

/-- Hop `s` has been sent. -/
def flying (a : Bool) (c : Dev nD) (s : ℕ) : sProp 𝕄 := if s < H a then cred (tallyAt (sndC a c (sl s)) 0 N) else iprop(emp)

/-- The credit of the transfer under way. -/
theorem flying_now (a : Bool) (c : Dev nD) (s : ℕ) (h : s < H a) : flying (F := F) a c s ⊢ cred (tallyAt (sndC a c (sl s)) 0 N) := by
  unfold flying; rw [if_pos h]

/-- The block that the previous hop brought: a share of it while it is being sent on, all of it otherwise. -/
def held (a : Bool) (c : Dev nD) : ℕ → sProp 𝕄
  | 0 => iprop(emp)
  | t + 1 => owns (c : Thread nD τ) (slotM a (sl t)) (if t + 1 < H a then fullShare.right else fullShare) (xb (org a c (t + 1)))

/-- While its block is sent on, half of a slot is held. -/
theorem held_sending (a : Bool) (c : Dev nD) (t : ℕ) (h : t + 1 < H a) :
    held xb a c (t + 1) = (owns (c : Thread nD τ) (slotM a (sl t)) fullShare.right (xb (org a c (t + 1))) : sProp 𝕄) := by
  show owns _ _ (if t + 1 < H a then _ else _) _ = _; rw [if_pos h]
/-- A block that isn't sent on is held whole. -/
theorem held_last (a : Bool) (c : Dev nD) (t : ℕ) (h : ¬ t + 1 < H a) :
    held xb a c (t + 1) = (owns (c : Thread nD τ) (slotM a (sl t)) fullShare (xb (org a c (t + 1))) : sProp 𝕄) := by
  show owns _ _ (if t + 1 < H a then _ else _) _ = _; rw [if_neg h]

/-- Every hop but the first reads the left half. -/
theorem shr_succ (a : Bool) (h : ℕ) : shr a (h + 1) = fullShare.left := by cases a <;> rfl

/-- The slots that are not used again. -/
def tail (a : Bool) (c : Dev nD) (s : ℕ) : sProp 𝕄 := bigSep (Finset.Ico (H a - 3) (s - 1)) fun i => slotOf (c, a, i)

/-- The share of the device's own block that hop 0 read. -/
def xback (a : Bool) (c : Dev nD) : ℕ → sProp 𝕄
  | 0 => iprop(emp)
  | _ + 1 => owns (c : Thread nD τ) xM (shr a 0) (xb c)

/-- The first hop's share comes back to the operand. -/
theorem xback_zero (a : Bool) (c : Dev nD) :
    (owns (c : Thread nD τ) (srcM a 0) (shr a 0) (xb (org a c 0)) : sProp 𝕄) ⊢ xback xb a c (0 + 1) := BI.Entails.refl _

/-- What device `c` holds for direction `a` when step `s` starts. -/
def Dir (a : Bool) (c : Dev nD) (s : ℕ) : sProp 𝕄 :=
  iprop(pos3 (rcvC a c) s ∗ recvs a c s ∗ creditsIn a c (s - 2) ∗ pos3 (sndC a c) s ∗ sends a c (s + 1) ∗ flying a c s
    ∗ held xb a c s ∗ tail a c s ∗ xback xb a c s ∗ creditsOut a c (s - 1) ∗ freed a c (fr a s))

/-- What it holds after the first piece of step `s`. -/
def Mid (a : Bool) (c : Dev nD) (s : ℕ) : sProp 𝕄 :=
  iprop(pos3 (rcvC a c) (s + 1) ∗ recvs a c (s + 1) ∗ creditsIn a c (s + 1 - 2) ∗ pos3 (sndC a c) s ∗ sends a c (s + 2) ∗ (flying a c s ∗ flying a c (s + 1))
    ∗ (held xb a c s ∗ held xb a c (s + 1)) ∗ tail a c s ∗ xback xb a c s ∗ creditsOut a c (s - 1) ∗ freed a c (fr a s))

/-- A slot that isn't used again is kept. -/
theorem tail_grow (a : Bool) (c : Dev nD) (t : ℕ) (h : H a ≤ t + 3) :
    iprop(tail (F := F) a c (t + 1) ∗ slotOf (c, a, t)) ⊢ tail a c (t + 2) := by
  unfold tail
  have e : Finset.Ico (H a - 3) (t + 2 - 1) = insert t (Finset.Ico (H a - 3) (t + 1 - 1)) := by
    ext i; rw [Finset.mem_insert, Finset.mem_Ico, Finset.mem_Ico]; omega
  have hn : t ∉ Finset.Ico (H a - 3) (t + 1 - 1) := by rw [Finset.mem_Ico]; omega
  rw [e]
  exact sep_comm.1.trans (insert_join (fun i => slotOf (c, a, i)) hn)

/-- Before the last three hops there is no such slot. -/
theorem tail_early (a : Bool) (c : Dev nD) (s : ℕ) (h : s + 3 ≤ H a) : tail (F := F) a c s ⊢ tail a c (s + 1) := by
  unfold tail
  rw [Finset.Ico_eq_empty (by omega), Finset.Ico_eq_empty (by omega)]

/-- After the last credit there is none to give. -/
theorem creditsOut_end (a : Bool) (c : Dev nD) {k k' : ℕ} (h : C a ≤ k) (h' : C a ≤ k') : creditsOut (F := F) a c k ⊢ creditsOut a c k' := by
  unfold creditsOut
  rw [Finset.Ico_eq_empty (Nat.not_lt.mpr h), Finset.Ico_eq_empty (Nat.not_lt.mpr h')]

/-- Letting one more hop land here: its slot is empty and its cell's previous round is over. -/
theorem free_one (a : Bool) (c : Dev nD) (n : ℕ) (hn : n < H a) :
    iprop(Know xb ∗ freed a c n ∗ slotOf (c, a, n) ∗ reached ER (rcvC a c (sl n)) (n / 3)) ⊢ (|={Set.univ}=> freed (F := F) a c (n + 1) : sProp 𝕄) := by
  unfold freed
  iintro ⟨#HK, ⟨Hre, #Hf⟩, Hslot, #Hr⟩
  ihave #HIS := (know_slot xb a c n hn) $$ HK
  icases HIS with ⟨%ι, #HIS⟩
  ihave Hre := (ico_split (fun h => (readerAt ES (c, a, h) 0 : sProp 𝕄)) hn) $$ Hre
  icases Hre with ⟨Hre1, Hre⟩
  imod (slot_release ES (Es := Set.univ) (Set.mem_univ ι) (slotOf_twice (F := F) a c n) 0) $$ [Hre1 Hslot] with ⟨-, #Hrel⟩
  · isplitr; · iexact HIS
    isplitl [Hre1]; · iexact Hre1
    iexact Hslot
  imodintro
  isplitl [Hre]; · iexact Hre
  iapply (freeTo_succ a c n)
  isplitr; · iexact Hf
  unfold free
  isplitr; · iexact Hrel
  iexact Hr

/-- After the last credit there is none to take. -/
theorem creditsIn_end (a : Bool) (c : Dev nD) {k k' : ℕ} (h : C a ≤ k) (h' : C a ≤ k') : creditsIn (F := F) a c k ⊢ creditsIn a c k' := by
  unfold creditsIn creditPos
  rw [if_pos h, if_pos h', Finset.Ico_eq_empty (Nat.not_lt.mpr h), Finset.Ico_eq_empty (Nat.not_lt.mpr h')]

/-! ## Sequencing -/

/-- One piece after another. -/
theorem WP_seq (c : Dev nD) (p q : KProg F) (P Q R : sProp 𝕄) (hp : P ⊢ WP c p Q) (hq : Q ⊢ WP c q R) : P ⊢ WP c (p >>= fun _ => q) R := by
  unfold WP
  rw [wp_bind]
  exact hp.trans (wp_mono _ _ _ fun _ => hq)

/-- The same, with the rest of the proof as a wand. -/
theorem WP_use (c : Dev nD) (p q : KProg F) (P Q R : sProp 𝕄) (hp : P ⊢ WP c p Q) :
    P ⊢ iprop((Q -∗ WP c q R) -∗ WP c (p >>= fun _ => q) R) := by
  iintro HP Hk
  unfold WP
  rw [wp_bind]
  iapply (wp_wand_r frame (wpE (defs₀ (F := F)) 𝒱₀ (c : Thread nD τ) none))
  isplitl [HP]
  · iapply hp $$ HP
  · iintro %_ HQ
    iapply Hk $$ HQ

/-- The last piece. -/
theorem WP_last (c : Dev nD) (p : KProg F) (P Q R : sProp 𝕄) (hp : P ⊢ WP c p Q) : P ⊢ iprop((Q -∗ R) -∗ WP c p R) := by
  iintro HP Hk
  unfold WP
  iapply (wp_wand_r frame (wpE (defs₀ (F := F)) 𝒱₀ (c : Thread nD τ) none))
  isplitl [HP]
  · iapply hp $$ HP
  · iintro %_ HQ
    iapply Hk $$ HQ

/-- A program leaves alone what it isn't given. -/
theorem WP_frame (c : Dev nD) (p : KProg F) (P Q R : sProp 𝕄) (hp : P ⊢ WP c p Q) : iprop(P ∗ R) ⊢ WP c p iprop(Q ∗ R) :=
  (sep_mono_left hp).trans (wp_frame_r _ _ _)

/-- A weaker statement about a program. -/
theorem WP_mono (c : Dev nD) (p : KProg F) (P P' Q Q' : sProp 𝕄) (h : P ⊢ P') (hp : P' ⊢ WP c p Q') (h' : Q' ⊢ Q) : P ⊢ WP c p Q :=
  h.trans (hp.trans (wp_mono _ _ _ fun _ => h'))

/-- The program that does nothing. -/
theorem WP_pure (c : Dev nD) (P : sProp 𝕄) : P ⊢ WP c (pure ⟨⟩) P := by
  unfold WP
  iintro H
  simp only [Prog.pure_eq_ret]
  rw [wp_ret]; imodintro
  iexact H

/-! ## The first piece of a step -/

/-- That hop `s + 1` may be sent: the barrier said so of the first three, a credit of each other. -/
theorem wp_allowed (a : Bool) (c : Dev nD) (s : ℕ) (q : KProg F) (R : sProp 𝕄) (O : CellTallies nD τ sig ℕ) (hs : s + 1 < H a) (hO : Above (2 * s + 1) O) :
    iprop(Know xb ∗ freeTo a (up a c) 3 ∗ creditsIn a c (s - 2) ∗ owesE c O)
      ⊢ iprop(((owesE c O ∗ creditsIn a c (s + 1 - 2) ∗ free a (up a c) (s + 1)) -∗ WP c q R)
        -∗ WP c (if 2 ≤ s then semWaitWord (crdS a) 1#32 >>= fun _ => q else q) R) := by
  by_cases h2 : 2 ≤ s
  · obtain ⟨k, rfl⟩ : ∃ k, s = k + 2 := ⟨s - 2, by omega⟩
    have hk : k < C a := by show k < H a - 3; omega
    rw [if_pos h2, show k + 2 - 2 = k from rfl, show k + 2 + 1 - 2 = k + 1 from rfl]
    unfold creditsIn
    iintro ⟨#HK, -, ⟨Hpos, Hcr⟩, HO⟩ Hk
    ihave Hcr := (ico_split (fun i => (cred (tallyAt (crdC a c) i 1) : sProp 𝕄)) hk) $$ Hcr
    icases Hcr with ⟨Hc, Hcr⟩
    iapply (WP_use c _ _ _ _ _ (wp_credit xb a c k O hk hO)) $$ [Hc HO Hpos]
    · isplitr; · iexact HK
      isplitl [Hc]; · iexact Hc
      isplitl [HO]; · iexact HO
      iexact Hpos
    iintro ⟨HO, Hpos, Hf⟩
    iapply Hk
    isplitl [HO]; · iexact HO
    isplitl [Hpos Hcr]
    · isplitl [Hpos]; · iexact Hpos
      iexact Hcr
    iapply (freeTo_get a (up a c) (by omega)) $$ Hf
  · rw [if_neg h2, show s + 1 - 2 = s - 2 by omega]
    iintro ⟨-, Hf, Hcr, HO⟩ Hk
    iapply Hk
    isplitl [HO]; · iexact HO
    isplitl [Hcr]; · iexact Hcr
    iapply (freeTo_get a (up a c) (by omega)) $$ Hf

/-- Taking the block of hop `s` and sending it on. -/
theorem wp_forward (a : Bool) (c : Dev nD) (s : ℕ) (O : CellTallies nD τ sig ℕ) (hs : s < H a) (hO : Above (2 * s + 2) O) :
    iprop(Know xb ∗ freeTo a (up a c) 3 ∗ Dir xb a c s ∗ owesE c (owed a c (s + 1) (s - 1) + O))
      ⊢ WP c (forward a c s) iprop(Mid xb a c s ∗ owesE c (owed a c (s + 2) (s - 1) + O)) := by
  have hA : Above (2 * s + 2) (owed a c (s + 1) (s - 1) + O) := above_add (above_owed a c (by omega) (by omega)) hO
  unfold Dir Mid
  iintro ⟨#HK, #Hf3, ⟨Hrp, Hrc, Hci, Hsp, Hse, Hfl, Hh, Htl, Hxb, Hco, Hfr⟩, HO⟩
  unfold forward
  rw [if_pos hs]
  unfold recvs
  ihave Hrc := (ico_split (fun h => (cred (tallyAt (rcvC a c (sl h)) h N) : sProp 𝕄)) hs) $$ Hrc
  icases Hrc with ⟨Hc, Hrc⟩
  ihave Hrp := (pos3_take (rcvC a c) s) $$ Hrp
  icases Hrp with ⟨Hat, Hrp⟩
  iapply (WP_use c _ _ _ _ _ (wp_recv xb a c s _ hs hA)) $$ [Hc HO Hat]
  · isplitr; · iexact HK
    isplitl [Hc]; · iexact Hc
    isplitl [HO]; · iexact HO
    iexact Hat
  iintro ⟨HO, Hat, Hr, Hblk⟩
  ihave Hrp := Hrp $$ [Hat Hr]
  · isplitl [Hat]; · iexact Hat
    iexact Hr
  by_cases hs1 : s + 1 < H a
  · rw [if_pos hs1]
    iapply (wp_allowed xb a c s _ _ _ hs1 (fun g u h => ⟨(hA g u h).1, by have := (hA g u h).2; omega⟩)) $$ [Hci HO]
    · isplitr; · iexact HK
      isplitr; · iexact Hf3
      isplitl [Hci]; · iexact Hci
      iexact HO
    iintro ⟨HO, Hci, Hf⟩
    ihave Hblk := (owns_split c (slotM a (sl s)) fullShare (xb (org a c (s + 1)))) $$ Hblk
    icases Hblk with ⟨HbL, HbR⟩
    unfold sends
    ihave Hse := (ico_split _ hs1) $$ Hse
    icases Hse with ⟨⟨Ht1, Ht2, Hw⟩, Hse⟩
    ihave Hsp := (pos3_reached (sndC a c) s) $$ Hsp
    icases Hsp with ⟨Hsp, Hr⟩
    iapply (WP_last c _ _ _ _ (wp_send xb a c (s + 1) (s - 1) O hs1)) $$ [HO Hf HbL Ht1 Ht2 Hw Hr]
    · isplitr; · iexact HK
      isplitl [Hf]; · iexact Hf
      isplitl [HbL]; · rw [shr_succ]; iexact HbL
      isplitl [Ht1]; · iexact Ht1
      isplitl [Ht2]; · iexact Ht2
      isplitl [Hw]; · iexact Hw
      isplitl [Hr]; · iexact Hr
      iexact HO
    iintro ⟨Hc, HO⟩
    isplitr [HO]
    · isplitl [Hrp]; · iexact Hrp
      isplitl [Hrc]; · iexact Hrc
      isplitl [Hci]; · iexact Hci
      isplitl [Hsp]; · iexact Hsp
      isplitl [Hse]; · iexact Hse
      isplitl [Hfl Hc]
      · isplitl [Hfl]; · iexact Hfl
        unfold flying; rw [if_pos hs1]; iexact Hc
      isplitl [Hh HbR]
      · isplitl [Hh]; · iexact Hh
        rw [held_sending xb a c s hs1]; iexact HbR
      isplitl [Htl]; · iexact Htl
      isplitl [Hxb]; · iexact Hxb
      isplitl [Hco]; · iexact Hco
      iexact Hfr
    · iexact HO
  · rw [if_neg hs1]
    have hend : H a ≤ s + 1 := Nat.le_of_not_lt hs1
    rw [owed_hop_end a c (s + 1) (s + 2) (s - 1) hend (by omega)]
    iapply (WP_last c _ _ _ _ (WP_pure c iprop(emp))) $$ []
    · iempintro
    iintro -
    isplitr [HO]
    · isplitl [Hrp]; · iexact Hrp
      isplitl [Hrc]; · iexact Hrc
      isplitl [Hci]
      · iapply (creditsIn_end a c (k := s - 2) (k' := s + 1 - 2) (by show H a - 3 ≤ _; omega) (by show H a - 3 ≤ _; omega)) $$ Hci
      isplitl [Hsp]; · iexact Hsp
      isplitl [Hse]
      · unfold sends; rw [Finset.Ico_eq_empty (Nat.not_lt.mpr hend), Finset.Ico_eq_empty (Nat.not_lt.mpr (Nat.le_succ_of_le hend))]; iexact Hse
      isplitl [Hfl]
      · isplitl [Hfl]; · iexact Hfl
        unfold flying; rw [if_neg hs1]; iempintro
      isplitl [Hh Hblk]
      · isplitl [Hh]; · iexact Hh
        rw [held_last xb a c s hs1]; iexact Hblk
      isplitl [Htl]; · iexact Htl
      isplitl [Hxb]; · iexact Hxb
      isplitl [Hco]; · iexact Hco
      iexact Hfr
    · iexact HO

/-! ## The second piece of a step -/

/-- Hops that share a slot have the same slot. -/
theorem slotOf_owns_mod (a : Bool) (c : Dev nD) (h h' : ℕ) (e : sl h = sl h') (X : S128x4096.Idx → Elt F .f32) :
    owns (c : Thread nD τ) (slotM a (sl h)) fullShare X ⊢ slotOf (F := F) (c, a, h') := by
  rw [e]; exact slotOf_owns a c h' X

/-- Hop `s` has been sent: its source is whole again, and serves hop `s + 2` if there is one. -/
theorem wp_retire (a : Bool) (c : Dev nD) (s : ℕ) (O : CellTallies nD τ sig ℕ) (hs : s < H a) (hO : Above 0 O) :
    iprop(Know xb ∗ Mid xb a c s ∗ owesE c (owed a c (s + 2) (s - 1) + O))
      ⊢ WP c (retire a c s) iprop(Dir xb a c (s + 1) ∗ owesE c (owed a c (s + 2) s + O)) := by
  have hA : Above 0 (owed a c (s + 2) (s - 1) + O) := above_add (above_owed a c (by omega) (by omega)) hO
  have hH : 15 ≤ H a := by cases a <;> decide
  unfold Dir Mid
  iintro ⟨#HK, ⟨Hrp, Hrc, Hci, Hsp, Hse, ⟨Hfl, Hfl'⟩, ⟨Hh, Hh'⟩, Htl, Hxb, Hco, Hfr⟩, HO⟩
  unfold retire
  rw [if_pos hs]
  ihave Hfl := (flying_now a c s hs) $$ Hfl
  ihave Hsp := (pos3_take (sndC a c) s) $$ Hsp
  icases Hsp with ⟨Hat, Hsp⟩
  iapply (WP_use c _ _ _ _ _ (wp_sent xb a c s _ hs hA)) $$ [Hfl HO Hat]
  · isplitr; · iexact HK
    isplitl [Hfl]; · iexact Hfl
    isplitl [HO]; · iexact HO
    iexact Hat
  iintro ⟨HO, Hat, Hr, Hsrc⟩
  ihave Hsp := Hsp $$ [Hat Hr]
  · isplitl [Hat]; · iexact Hat
    iexact Hr
  rcases s with _ | t
  · rw [if_neg (by omega)]
    iapply (WP_last c _ _ _ _ (WP_pure c iprop(emp))) $$ []
    · iempintro
    iintro -
    isplitr [HO]
    · isplitl [Hrp]; · iexact Hrp
      isplitl [Hrc]; · iexact Hrc
      isplitl [Hci]; · iexact Hci
      isplitl [Hsp]; · iexact Hsp
      isplitl [Hse]; · iexact Hse
      isplitl [Hfl']; · iexact Hfl'
      isplitl [Hh']; · iexact Hh'
      isplitl [Htl]; · iapply (tail_early a c 0 (by omega)) $$ Htl
      isplitl [Hsrc]; · iapply (xback_zero xb a c) $$ Hsrc
      isplitl [Hco]; · iexact Hco
      have e : fr a (0 + 1) = fr a 0 := by unfold fr; omega
      rw [e]; iexact Hfr
    · iexact HO
  · ihave Hh := (Entails.of_eq (held_sending xb a c t hs)) $$ Hh
    have hsrc : (owns (c : Thread nD τ) (srcM a (t + 1)) (shr a (t + 1)) (xb (org a c (t + 1))) : sProp 𝕄)
        ⊢ owns (c : Thread nD τ) (slotM a (sl t)) fullShare.left (xb (org a c (t + 1))) := by rw [shr_succ]; exact BI.Entails.refl _
    ihave Hsrc := hsrc $$ Hsrc
    ihave Hslot := (owns_join c (slotM a (sl t)) fullShare (xb (org a c (t + 1))) (xb (org a c (t + 1)))) $$ [Hsrc Hh]
    · isplitl [Hsrc]; · iexact Hsrc
      iexact Hh
    by_cases h2 : t + 1 + 2 < H a
    · rw [if_pos ⟨by omega, h2⟩]
      have hf : fr a (t + 1) = t + 3 := by unfold fr; omega
      have hf' : fr a (t + 1 + 1) = t + 3 + 1 := by unfold fr; omega
      have hsl : sl t = sl (t + 3) := Fin.ext (by unfold sl; dsimp only; omega)
      have hk : t < C a := by show t < H a - 3; omega
      rw [hf']
      ihave Hfr := (Entails.of_eq (congrArg (freed (F := F) a c) hf)) $$ Hfr
      ihave Hslot := (slotOf_owns_mod a c t (t + 3) hsl _) $$ Hslot
      ihave Hrp := (pos3_reached (rcvC a c) (t + 1 + 1)) $$ Hrp
      icases Hrp with ⟨Hrp, Hr⟩
      unfold WP
      iapply (fupd_wp frame (wpE (defs₀ (F := F)) 𝒱₀ (c : Thread nD τ) none) Set.univ)
      imod (free_one xb a c (t + 3) h2) $$ [Hfr Hslot Hr] with Hfr
      · isplitr; · iexact HK
        isplitl [Hfr]; · iexact Hfr
        isplitl [Hslot]; · iexact Hslot
        iexact Hr
      imodintro
      unfold freed
      icases Hfr with ⟨Hre, #Hf⟩
      have hco : creditsOut (F := F) a c (t + 1 - 1) ⊢ iprop(dutyTok ER (crdC a (dn a c)) 0 t ∗ creditsOut a c (t + 1)) := by
        unfold creditsOut; exact ico_split (fun i => (dutyTok ER (crdC a (dn a c)) 0 i : sProp 𝕄)) hk
      ihave Hco := hco $$ Hco
      icases Hco with ⟨Ht, Hco⟩
      iapply (WP_last c _ _ _ _ (wp_give xb a c (t + 1 + 2) t O hk)) $$ [HO Ht]
      · isplitr; · iexact HK
        isplitl [HO]; · iexact HO
        isplitl [Ht]; · iexact Ht
        iexact Hf
      iintro HO
      isplitr [HO]
      · isplitl [Hrp]; · iexact Hrp
        isplitl [Hrc]; · iexact Hrc
        isplitl [Hci]; · iexact Hci
        isplitl [Hsp]; · iexact Hsp
        isplitl [Hse]; · iexact Hse
        isplitl [Hfl']; · iexact Hfl'
        isplitl [Hh']; · iexact Hh'
        isplitl [Htl]; · iapply (tail_early a c (t + 1) (by omega)) $$ Htl
        isplitl [Hxb]; · iexact Hxb
        isplitl [Hco]; · iexact Hco
        isplitl [Hre]; · iexact Hre
        iexact Hf
      · iexact HO
    · rw [if_neg (by omega)]
      have hf : fr a (t + 1 + 1) = fr a (t + 1) := by unfold fr; omega
      have hk : C a ≤ t := by show H a - 3 ≤ t; omega
      rw [hf]
      ihave Hslot := (slotOf_owns a c t _) $$ Hslot
      have ho : owed a c (t + 1 + 2) (t + 1 - 1) = owed a c (t + 1 + 2) (t + 1) := owed_credit_end a c _ _ _ hk (by omega)
      ihave HO := (Entails.of_eq (congrArg (fun x => owesE (F := F) c (x + O)) ho)) $$ HO
      iapply (WP_last c _ _ _ _ (WP_pure c iprop(emp))) $$ []
      · iempintro
      iintro -
      isplitr [HO]
      · isplitl [Hrp]; · iexact Hrp
        isplitl [Hrc]; · iexact Hrc
        isplitl [Hci]; · iexact Hci
        isplitl [Hsp]; · iexact Hsp
        isplitl [Hse]; · iexact Hse
        isplitl [Hfl']; · iexact Hfl'
        isplitl [Hh']; · iexact Hh'
        isplitl [Htl Hslot]
        · iapply (tail_grow a c t (by omega))
          isplitl [Htl]; · iexact Htl
          iexact Hslot
        isplitl [Hxb]; · iexact Hxb
        isplitl [Hco]; · iapply (creditsOut_end a c (k := t + 1 - 1) (k' := t + 1) (by omega) (by omega)) $$ Hco
        iexact Hfr
      · iexact HO

end Cert.Ring
-- ==== Proof.Products.lean ====
/-
# The products

The result block is filled 128 rows at a time: the rows of device `d` take the product of `d`'s block with this
device's columns. `outSt` says which devices' rows are in place; `wp_dot` and `wp_ownDot` put one more.
-/
module

public import proofs.«01_k».proof.Proof.State
public import Idealize.ShloMosaic.Lib.Pipeline.Value

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (xb : Dev nD → S128x4096.Idx → Elt F .f32) (wb : Dev nD → S4096x256.Idx → Elt F .f32)

/-! ## Which rows a step writes -/

/-- Where a block comes from, as a number. -/
theorem org_val (a : Bool) (c : Dev nD) (h : ℕ) : (org a c h).val = (c.val + (if a then 31 else 1) * h) % 32 := by
  have hc : c.val < 32 := c.isLt
  induction h with
  | zero => rw [org_zero, Nat.mul_zero, Nat.add_zero, Nat.mod_eq_of_lt hc]
  | succ h ih =>
    have e : org a c (h + 1) = dn a (org a c h) := Function.iterate_succ_apply' _ _ _
    rw [e]
    cases a
    · show (nxt _).val = _
      rw [nxt_val, ih]; simp only [Bool.false_eq_true, if_false]; omega
    · show (prv _).val = _
      rw [prv_val, ih]; simp only [if_true]; omega

def rowOff (d : Dev nD) : Fin 2 → ℕ := ![128 * d.val, 0]

/-- A device's rows lie inside the result. -/
theorem rowOff_inb (d : Dev nD) : ∀ i, rowOff d i + S128x256.size i ≤ S4096x256.size i := by
  have hd : d.val < 32 := d.isLt
  intro i
  fin_cases i
  · show 128 * d.val + 128 ≤ 4096; omega
  · show 0 + 256 ≤ 256; omega

/-- The rows of device `d` in the result block. -/
abbrev rowR (d : Dev nD) : Rect S4096x256 := Rect.unit (s := S4096x256) (rowOff d) S128x256.size (rowOff_inb d)

/-- A step stores at the rows of the device that the block comes from. -/
theorem offO_eq (a : Bool) (c : Dev nD) (s : ℕ) (h : s < H a) : offO a c s = rowOff (org a c (s + 1)) := by
  have hc : c.val < 32 := c.isLt
  have hH := H_le a
  cases a
  · show k0_off3 c (BitVec.ofNat 32 s) = _
    refine (k0_off3_eq c ⟨s, h⟩).trans ?_
    unfold rowOff; rw [org_val]
    simp only [Bool.false_eq_true, if_false, Nat.one_mul, Nat.add_assoc]
  · show k0_off2 c (BitVec.ofNat 32 (31 - s)) = _
    have h16 : s < 16 := h
    rw [show 31 - s = 16 + (15 - s) by omega]
    refine (k0_off2_eq c ⟨15 - s, by omega⟩).trans ?_
    unfold rowOff; rw [org_val]
    simp only [if_true]
    congr 2
    omega

/-- Different devices' rows are apart. -/
theorem rowR_disjoint (d d' : Dev nD) (h : d ≠ d') : Disjoint (oM.view.slice (rowR d)).set (oM.view.slice (rowR d')).set := by
  have hv : d.val ≠ d'.val := fun e => h (Fin.ext e)
  rw [Finset.disjoint_left]
  intro i hi hi'
  obtain ⟨x, -, hx⟩ := Finset.mem_map.mp hi
  obtain ⟨y, -, hy⟩ := Finset.mem_map.mp hi'
  have e := congrArg (fun z : S4096x256.Idx => (z 0).val) (oM.view.emb.injective (hx.trans hy.symm) : (rowR d).emb x = (rowR d').emb y)
  have hx0 : (x 0).val < 128 := (x 0).isLt
  have hy0 : (y 0).val < 128 := (y 0).isLt
  have e' : 128 * d.val + 1 * (x 0).val = 128 * d'.val + 1 * (y 0).val := e
  omega

/-! ## The result block as it fills -/

/-- The product that device `c` puts in the rows of device `d`. -/
def blk (c d : Dev nD) : S128x256.Idx → Elt F .f32 := k0_pay2 (xb d) (wb c)

/-- The result block with the rows of the devices in `D` in place. -/
def outSt (c : Dev nD) (D : Dev nD → Prop) : sProp 𝕄 :=
  iprop(∃ f : Buf (Elt F) (oM.view.loc (c : Thread nD τ)), ⌜∀ d, D d → (oM.access (rowR d)).read (Elt F) f = blk xb wb c d⌝
    ∗ (oM.view.loc (c : Thread nD τ) ↦[Finset.univ]{fullShare} f))

/-- The device's columns of the second operand. -/
def wSt (c : Dev nD) : sProp 𝕄 := (wM.view.loc (c : Thread nD τ) ↦[Finset.univ]{fullShare} (wb c : Buf (Elt F) (wM.view.loc (c : Thread nD τ))))

/-- Storing one device's rows leaves the others'. -/
theorem rows_put (c d : Dev nD) (D : Dev nD → Prop) (f : Buf (Elt F) (oM.view.loc (c : Thread nD τ)))
    (hf : ∀ d, D d → (oM.access (rowR d)).read (Elt F) f = blk xb wb c d) :
    ∀ d', (D d' ∨ d' = d) → (oM.access (rowR d')).read (Elt F) ((oM.access (rowR d)).write (Elt F) f (blk xb wb c d) Finset.univ) = blk xb wb c d' := by
  intro d' hd'
  by_cases e : d' = d
  · subst e; exact View.read_write_univ _ _
  · rw [← hf d' (hd'.resolve_right e)]
    exact View.read_slice_write_slice_of_disjoint (v := oM.view) (Val := Elt F) (rowR d') (rowR d) f (blk xb wb c d) Finset.univ (by
      show Disjoint _ (oM.view.slice (rowR d)).set; exact rowR_disjoint d' d e)

/-- The second operand is read whole. -/
theorem w_read (c : Dev nD) : wM.view.readAt (Elt F) (Rect.unit (s := S4096x256) ![0, 0] S4096x256.size inb_S4096x256_S4096x256_0_0).toLoadRect
    (wb c : Buf (Elt F) (wM.view.loc (c : Thread nD τ))) = wb c :=
  Memref.readAt_unit_zero (Elt F) cc0_stg1_0 (by funext i; fin_cases i <;> rfl) _ _

/-- A product as the steps write it. -/
theorem pay3_eq (v : S1x128x4096.Idx → Elt F .f32) (X : S128x4096.Idx → Elt F .f32) (w : S4096x256.Idx → Elt F .f32)
    (h : shapeCast S128x4096 v shapeCasts_S1x128x4096_S128x4096 = X) : k0_pay3 v w = k0_pay2 X w := by
  unfold k0_pay3 k0_pay2
  rw [h]; dsimp only; rw [shapeCast_self X]

/-- Reading the rows of device `d` and storing its product there. -/
theorem wp_put (c d : Dev nD) (D : Dev nD → Prop) (off : Fin 2 → ℕ) (inb : ∀ i, off i + S128x256.size i ≤ S4096x256.size i) (hoff : off = rowOff d)
    (w : S128x256.Idx → Elt F .f32) (hw : w = blk xb wb c d) (hl) (hst) (hm) :
    outSt xb wb c D ⊢ WP c (.op (.load oM (Rect.unit (s := S4096x256) off S128x256.size inb).toLoadRect hl) fun _ =>
        .op (.store oM (Rect.unit (s := S4096x256) off S128x256.size inb) w Finset.univ hst hm) .ret)
      (outSt xb wb c (fun d' => D d' ∨ d' = d)) := by
  subst hoff hw
  unfold outSt
  iintro ⟨%f, %hf, Ho⟩
  iapply (wp_load 𝒱₀ (c : Thread nD τ) none Set.univ (m := oM) (Finset.subset_univ _)) $$ Ho
  iintro Ho
  iapply (wp_store 𝒱₀ (c : Thread nD τ) none Set.univ (m := oM) (r := rowR d) (Mk := Finset.univ) (Finset.subset_univ _)) $$ Ho
  iintro Ho
  rw [wp_ret]; imodintro
  iexists ((oM.access (rowR d)).write (Elt F) f (blk xb wb c d) Finset.univ)
  isplitr; · ipureintro; exact rows_put xb wb c d D f hf
  iexact Ho

/-- The product of the block that the step's hop brought. -/
theorem wp_dot (a : Bool) (c : Dev nD) (s : ℕ) (D : Dev nD → Prop) (hs : s < H a) :
    iprop(held xb a c (s + 1) ∗ wSt wb c ∗ outSt xb wb c D)
      ⊢ WP c (dot a c s) iprop(held xb a c (s + 1) ∗ wSt wb c ∗ outSt xb wb c (fun d => D d ∨ d = org a c (s + 1))) := by
  have hset : ((scrM a).access (slotR (sl s))).set ⊆ (slotM a (sl s)).view.set := by
    unfold slotM
    exact subset_of_eq (View.set_reshape _ _).symm
  obtain ⟨q, hq⟩ : ∃ q, held xb a c (s + 1) = (owns (c : Thread nD τ) (slotM a (sl s)) q (xb (org a c (s + 1))) : sProp 𝕄) := ⟨_, rfl⟩
  rw [hq]
  unfold owns wSt outSt
  iintro ⟨⟨%fs, %hfs, Hs⟩, Hw, ⟨%f, %hf, Ho⟩⟩
  have e : ((slotM a (sl s)).view.loc (c : Thread nD τ) ↦[(slotM a (sl s)).view.set]{q} fs : sProp 𝕄)
      = (((scrM a).access (slotR (sl s))).loc (c : Thread nD τ) ↦[(slotM a (sl s)).view.set]{q} fs) := rfl
  ihave Hs := (Entails.of_eq e) $$ Hs
  have hv : k0_pay3 (((scrM a).access (slotR (sl s))).read (Elt F) fs) (wb c) = blk xb wb c (org a c (s + 1)) := by
    refine pay3_eq _ _ _ ?_
    rw [← hfs]; rfl
  unfold dot
  rw [dif_pos hs]
  simp only [Prog.lift, Prog.bind_op, Prog.bind_ret, Prog.pure_eq_ret]
  iapply (wp_load_rect 𝒱₀ (c : Thread nD τ) none Set.univ (m := scrM a) (r := slotR (sl s)) (S := (slotM a (sl s)).view.set) (q := q) (f := fs) hset) $$ Hs
  iintro Hs
  ihave Hs := (Entails.of_eq e.symm) $$ Hs
  iapply (wp_load 𝒱₀ (c : Thread nD τ) none Set.univ (m := wM) (Finset.subset_univ _)) $$ Hw
  iintro Hw
  rw [w_read]
  iapply (WP_last c _ _ _ _ (wp_put xb wb c (org a c (s + 1)) D (offO a c s) (offO_inb a c s hs) (offO_eq a c s hs) _ hv _ _ _)) $$ [Ho]
  · unfold outSt; iexists f
    isplitr; · ipureintro; exact hf
    iexact Ho
  unfold outSt
  iintro Ho
  isplitl [Hs]
  · iexists fs; isplitr; · ipureintro; exact hfs
    iexact Hs
  isplitl [Hw]; · iexact Hw
  iexact Ho

/-- The product of the device's own block. -/
theorem wp_ownDot (c : Dev nD) (q : PosShare TreeShare) (D : Dev nD → Prop) :
    iprop(owns (c : Thread nD τ) xM q (xb c) ∗ wSt wb c ∗ outSt xb wb c D)
      ⊢ WP c (ownDot c) iprop(owns (c : Thread nD τ) xM q (xb c) ∗ wSt wb c ∗ outSt xb wb c (fun d => D d ∨ d = c)) := by
  have hx (f : Buf (Elt F) (xM.view.loc (c : Thread nD τ))) : xM.view.readAt (Elt F) (Rect.unit (s := S128x4096) ![0, 0] S128x4096.size inb_S128x4096_S128x4096_0_0).toLoadRect f
      = (f : S128x4096.Idx → Elt F .f32) := Memref.readAt_unit_zero (Elt F) cc0_stg0_0 (by funext i; fin_cases i <;> rfl) _ _
  unfold owns wSt
  iintro ⟨⟨%fs, %hfs, Hs⟩, Hw, Ho⟩
  have hv : k0_pay2 (fs : S128x4096.Idx → Elt F .f32) (wb c) = blk xb wb c c := by
    unfold blk; rw [← hfs]; rfl
  unfold ownDot
  simp only [Prog.lift, Prog.bind_op, Prog.bind_ret, Prog.pure_eq_ret]
  iapply (wp_load 𝒱₀ (c : Thread nD τ) none Set.univ (m := xM) (View.setOn_subset_set _ _)) $$ Hs
  iintro Hs
  iapply (wp_load 𝒱₀ (c : Thread nD τ) none Set.univ (m := wM) (Finset.subset_univ _)) $$ Hw
  iintro Hw
  rw [w_read, hx]
  iapply (WP_last c _ _ _ _ (wp_put xb wb c c D (k0_off1 c) (k0_off1_inb c) (k0_off1_eq c) _ hv _ _ _)) $$ [Ho]
  · iexact Ho
  iintro Ho
  isplitl [Hs]
  · iexists fs; isplitr; · ipureintro; exact hfs
    iexact Hs
  isplitl [Hw]; · iexact Hw
  iexact Ho

/-- Of the rows in place, some. -/
theorem outSt_le (c : Dev nD) {D D' : Dev nD → Prop} (h : ∀ d, D' d → D d) : outSt xb wb c D ⊢ outSt xb wb c D' := by
  unfold outSt
  iintro ⟨%f, %hf, Ho⟩
  iexists f
  isplitr; · ipureintro; exact fun d hd => hf d (h d hd)
  iexact Ho

end Cert.Ring
-- ==== Proof.Steps.lean ====
/-
# All the steps

One step of both directions takes `St` at `s` to `St` at `s + 1`; so the sixteen steps take it from 0 to 16.
-/
module

public import proofs.«01_k».proof.Proof.Products

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (xb : Dev nD → S128x4096.Idx → Elt F .f32) (wb : Dev nD → S4096x256.Idx → Elt F .f32)

/-! ## A direction's pieces at any step, past its last hop too -/

/-- What a direction holds at step `s`, its last hop past or not. -/
def DirAt (a : Bool) (c : Dev nD) (s : ℕ) : sProp 𝕄 := Dir xb a c (min s (H a))

/-- What it holds after the first piece. -/
def MidAt (a : Bool) (c : Dev nD) (s : ℕ) : sProp 𝕄 := if s < H a then Mid xb a c s else Dir xb a c (H a)

/-- After the program there is only a consequence to draw. -/
theorem WP_done (c : Dev nD) {P Q : sProp 𝕄} (h : P ⊢ Q) : P ⊢ WP (F := F) c (pure ⟨⟩) Q := h.trans (WP_pure c Q)

/-- Receive and send on, at any step, also one past the direction's last. -/
theorem wp_forwardAt (a : Bool) (c : Dev nD) (s : ℕ) (O : CellTallies nD τ sig ℕ) (hO : Above (2 * s + 2) O) :
    iprop(Know xb ∗ freeTo a (up a c) 3 ∗ DirAt xb a c s ∗ owesE c (owed a c (s + 1) (s - 1) + O))
      ⊢ WP c (forward a c s) iprop(MidAt xb a c s ∗ owesE c (owed a c (s + 2) (s - 1) + O)) := by
  unfold DirAt MidAt
  by_cases hs : s < H a
  · rw [if_pos hs, min_eq_left hs.le]; exact wp_forward xb a c s O hs hO
  · have hle : H a ≤ s := Nat.le_of_not_lt hs
    rw [if_neg hs, min_eq_right hle, owed_hop_end a c (s + 1) (s + 2) _ (by omega) (by omega)]
    unfold forward; rw [if_neg hs]
    refine WP_done c ?_
    iintro ⟨-, -, H⟩; iexact H

/-- Wait for the send and give the credit, at any step. -/
theorem wp_retireAt (a : Bool) (c : Dev nD) (s : ℕ) (O : CellTallies nD τ sig ℕ) (hO : Above 0 O) :
    iprop(Know xb ∗ MidAt xb a c s ∗ owesE c (owed a c (s + 2) (s - 1) + O))
      ⊢ WP c (retire a c s) iprop(DirAt xb a c (s + 1) ∗ owesE c (owed a c (s + 2) s + O)) := by
  unfold DirAt MidAt
  by_cases hs : s < H a
  · rw [if_pos hs, min_eq_left (show s + 1 ≤ H a from hs)]; exact wp_retire xb a c s O hs hO
  · have hle : H a ≤ s := Nat.le_of_not_lt hs
    have hC : C a = H a - 3 := rfl
    rw [if_neg hs, min_eq_right (by omega), owed_credit_end a c (s + 2) (s - 1) s (by omega) (by omega)]
    unfold retire; rw [if_neg hs]
    refine WP_done c ?_
    iintro ⟨-, H⟩; iexact H

/-- Store a step's product, if the direction has that step. -/
theorem wp_dotAt (a : Bool) (c : Dev nD) (s : ℕ) (D : Dev nD → Prop) :
    iprop(DirAt xb a c (s + 1) ∗ wSt wb c ∗ outSt xb wb c D)
      ⊢ WP c (dot a c s) iprop(DirAt xb a c (s + 1) ∗ wSt wb c ∗ outSt xb wb c (fun d => D d ∨ (s < H a ∧ d = org a c (s + 1)))) := by
  by_cases hs : s < H a
  · unfold DirAt
    rw [min_eq_left (show s + 1 ≤ H a from hs)]
    unfold Dir
    iintro ⟨⟨H1, H2, H3, H4, H5, H6, Hh, H8, H9, H10, H11⟩, Hw, Ho⟩
    iapply (WP_last c _ _ _ _ (wp_dot xb wb a c s D hs)) $$ [Hh Hw Ho]
    · isplitl [Hh]; · iexact Hh
      isplitl [Hw]; · iexact Hw
      iexact Ho
    iintro ⟨Hh, Hw, Ho⟩
    isplitr [Hw Ho]
    · isplitl [H1]; · iexact H1
      isplitl [H2]; · iexact H2
      isplitl [H3]; · iexact H3
      isplitl [H4]; · iexact H4
      isplitl [H5]; · iexact H5
      isplitl [H6]; · iexact H6
      isplitl [Hh]; · iexact Hh
      isplitl [H8]; · iexact H8
      isplitl [H9]; · iexact H9
      isplitl [H10]; · iexact H10
      iexact H11
    isplitl [Hw]; · iexact Hw
    iapply (outSt_le xb wb c (fun d hd => hd.imp id fun h => h.2)) $$ Ho
  · unfold dot; rw [dif_neg hs]
    refine WP_done c ?_
    iintro ⟨HD, Hw, Ho⟩
    isplitl [HD]; · iexact HD
    isplitl [Hw]; · iexact Hw
    iapply (outSt_le xb wb c (fun d hd => hd.resolve_right fun h => hs h.1)) $$ Ho

/-! ## One step, all steps -/

/-- The devices whose rows are in place when step `s` starts. -/
def done (c : Dev nD) (s : ℕ) (d : Dev nD) : Prop := d = c ∨ ∃ a i, i < s ∧ i < H a ∧ d = org a c (i + 1)

/-- What device `c` holds when step `s` starts. -/
def St (c : Dev nD) (s : ℕ) : sProp 𝕄 :=
  iprop(DirAt xb true c s ∗ DirAt xb false c s ∗ wSt wb c ∗ outSt xb wb c (done c s)
    ∗ owesE c (owed true c (s + 1) (s - 1) + owed false c (s + 1) (s - 1)))

/-- Debts add in any order. -/
theorem owes_comm (c : Dev nD) (A B : CellTallies nD τ sig ℕ) : owesE (F := F) c (A + B) ⊢ owesE c (B + A) := by
  rw [add_comm]

/-- The rows stored after one more step. -/
theorem done_succ (c : Dev nD) (s : ℕ) (d : Dev nD) (h : done c (s + 1) d) :
    (done c s d ∨ (s < H true ∧ d = org true c (s + 1))) ∨ (s < H false ∧ d = org false c (s + 1)) := by
  rcases h with rfl | ⟨a, i, hi, hH, e⟩
  · exact .inl (.inl (.inl rfl))
  · rcases Nat.lt_or_eq_of_le (Nat.le_of_lt_succ hi) with hlt | rfl
    · exact .inl (.inl (.inr ⟨a, i, hlt, hH, e⟩))
    · cases a
      · exact .inr ⟨hH, e⟩
      · exact .inl (.inr ⟨hH, e⟩)

/-- One step of both directions. -/
theorem wp_step (c : Dev nD) (s : ℕ) :
    iprop(Know xb ∗ freeTo true (up true c) 3 ∗ freeTo false (up false c) 3 ∗ St xb wb c s) ⊢ WP c (step c s) (St xb wb c (s + 1)) := by
  unfold St step
  iintro ⟨#HK, #Hft, #Hff, HT, HF, Hw, Ho, HO⟩
  iapply (WP_use c _ _ _ _ _ (wp_forwardAt xb true c s (owed false c (s + 1) (s - 1)) (above_owed false c (by omega) (by omega)))) $$ [HT HO]
  · isplitr; · iexact HK
    isplitr; · iexact Hft
    isplitl [HT]; · iexact HT
    iexact HO
  iintro ⟨HT, HO⟩
  ihave HO := (owes_comm c _ _) $$ HO
  iapply (WP_use c _ _ _ _ _ (wp_forwardAt xb false c s (owed true c (s + 2) (s - 1)) (above_owed true c (by omega) (by omega)))) $$ [HF HO]
  · isplitr; · iexact HK
    isplitr; · iexact Hff
    isplitl [HF]; · iexact HF
    iexact HO
  iintro ⟨HF, HO⟩
  ihave HO := (owes_comm c _ _) $$ HO
  iapply (WP_use c _ _ _ _ _ (wp_retireAt xb true c s (owed false c (s + 2) (s - 1)) (above_owed false c (by omega) (by omega)))) $$ [HT HO]
  · isplitr; · iexact HK
    isplitl [HT]; · iexact HT
    iexact HO
  iintro ⟨HT, HO⟩
  ihave HO := (owes_comm c _ _) $$ HO
  iapply (WP_use c _ _ _ _ _ (wp_retireAt xb false c s (owed true c (s + 2) s) (above_owed true c (by omega) (by omega)))) $$ [HF HO]
  · isplitr; · iexact HK
    isplitl [HF]; · iexact HF
    iexact HO
  iintro ⟨HF, HO⟩
  ihave HO := (owes_comm c _ _) $$ HO
  iapply (WP_use c _ _ _ _ _ (wp_dotAt xb wb true c s _)) $$ [HT Hw Ho]
  · isplitl [HT]; · iexact HT
    isplitl [Hw]; · iexact Hw
    iexact Ho
  iintro ⟨HT, Hw, Ho⟩
  iapply (WP_last c _ _ _ _ (wp_dotAt xb wb false c s _)) $$ [HF Hw Ho]
  · isplitl [HF]; · iexact HF
    isplitl [Hw]; · iexact Hw
    iexact Ho
  iintro ⟨HF, Hw, Ho⟩
  isplitl [HT]; · iexact HT
  isplitl [HF]; · iexact HF
  isplitl [Hw]; · iexact Hw
  isplitl [Ho]; · iapply (outSt_le xb wb c (fun d hd => done_succ c s d hd)) $$ Ho
  iexact HO

/-- All the steps. -/
theorem wp_steps (c : Dev nD) (n : ℕ) : ∀ s, iprop(Know xb ∗ freeTo true (up true c) 3 ∗ freeTo false (up false c) 3 ∗ St xb wb c s)
    ⊢ WP c (steps c n s) (St xb wb c (s + n)) := by
  induction n with
  | zero =>
    intro s
    refine WP_done c ?_
    iintro ⟨-, -, -, H⟩; iexact H
  | succ n ih =>
    intro s
    have hn : s + (n + 1) = s + 1 + n := by omega
    refine BIBase.Entails.trans ?_ (Entails.of_eq (congrArg (fun k => WP c (steps c (n + 1) s) (St xb wb c k)) hn.symm))
    iintro ⟨#HK, #Hft, #Hff, HS⟩
    unfold steps
    iapply (WP_use c _ _ _ _ _ (wp_step xb wb c s)) $$ [HS]
    · isplitr; · iexact HK
      isplitr; · iexact Hft
      isplitr; · iexact Hff
      iexact HS
    iintro HS
    iapply (ih (s + 1))
    isplitr; · iexact HK
    isplitr; · iexact Hft
    isplitr; · iexact Hff
    iexact HS

/-- After the sixteen steps all rows are in place. -/
theorem done_all (c d : Dev nD) : done c 16 d := by
  have hc : c.val < 32 := c.isLt
  have hd : d.val < 32 := d.isLt
  by_cases h0 : d = c
  · exact .inl h0
  have hne : d.val ≠ c.val := fun e => h0 (Fin.ext e)
  by_cases h1 : (d.val + 32 - c.val) % 32 ≤ 15
  · refine .inr ⟨false, (d.val + 32 - c.val) % 32 - 1, by omega, by show _ < 15; omega, Fin.ext ?_⟩
    rw [org_val]; simp only [Bool.false_eq_true, if_false]; omega
  · refine .inr ⟨true, 31 - (d.val + 32 - c.val) % 32, by omega, by show _ < 16; omega, Fin.ext ?_⟩
    rw [org_val]; simp only [if_true]; omega

end Cert.Ring
-- ==== Proof.Slots.lean ====
/-
# The slot buffers

A direction's slot buffer is its three slots; and three slots, whatever they hold, are the buffer.
-/
module

public import proofs.«01_k».proof.Proof.Steps

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- A direction's slot buffer at any contents. -/
def scrAny (a : Bool) (c : Dev nD) : sProp 𝕄 := iprop(∃ f : Buf (Elt F) ((scrM a).view.loc (c : Thread nD τ)), ((scrM a).view.loc (c : Thread nD τ)) ↦{fullShare} f)

/-- One slot at any contents. -/
def slotJ (a : Bool) (c : Dev nD) (j : Fin 3) : sProp 𝕄 :=
  iprop(∃ f : Buf (Elt F) ((slotM a j).view.loc (c : Thread nD τ)), ((slotM a j).view.loc (c : Thread nD τ)) ↦[(slotM a j).view.set]{fullShare} f)

/-- A hop's slot is one of the three. -/
theorem slotJ_of (a : Bool) (c : Dev nD) (h : ℕ) (j : Fin 3) (e : sl h = j) : slotOf (F := F) (c, a, h) ⊢ slotJ a c j := by
  subst e; rw [slotOf_eq]; rfl

/-- One of the three, as a hop's slot. -/
theorem slotOf_of (a : Bool) (c : Dev nD) (h : ℕ) (j : Fin 3) (e : sl h = j) : slotJ (F := F) a c j ⊢ slotOf (c, a, h) := by
  subst e; rw [slotOf_eq]; rfl

/-- The elements of slot `j`. -/
abbrev slotS (a : Bool) (j : Fin 3) : Finset (scrM a).view.ty.Idx := ((scrM a).view.slice (slotR j)).set

/-- The places of a slot. -/
theorem slot_set (a : Bool) (j : Fin 3) : (slotM a j).view.set = slotS a j := View.set_reshape _ _

/-- The three slots are apart. -/
theorem slotS_disjoint (a : Bool) (j j' : Fin 3) (h : j ≠ j') : Disjoint (slotS a j) (slotS a j') := by
  unfold slotS
  rw [View.set_slice, View.set_slice]
  refine (Finset.disjoint_map _).mpr (Rect.unit_disjoint 0 ?_)
  have : j.val ≠ j'.val := fun e => h (Fin.ext e)
  show j.val + 1 ≤ j'.val ∨ j'.val + 1 ≤ j.val
  omega

/-- The buffer is all of its places. -/
theorem scr_univ (a : Bool) : (scrM a).view.set = Finset.univ := by
  cases a <;> exact View.set_whole _

/-- Every place lies in a slot. -/
theorem slotS_cover (a : Bool) : (Finset.univ : Finset (Fin 3)).biUnion (slotS a) = Finset.univ := by
  refine Finset.eq_univ_iff_forall.mpr fun i => ?_
  have hi : i ∈ (scrM a).view.set := by rw [scr_univ]; exact Finset.mem_univ i
  obtain ⟨x, -, rfl⟩ := Finset.mem_map.mp hi
  have h0 : (x 0).val < 3 := (x 0).isLt
  refine Finset.mem_biUnion.mpr ⟨⟨(x 0).val, h0⟩, Finset.mem_univ _, ?_⟩
  unfold slotS
  rw [View.set_slice]
  refine Finset.mem_map_of_mem _ (Rect.mem_set_unit.mpr fun b => ?_)
  have h1 : (x 1).val < 128 := (x 1).isLt
  have h2 : (x 2).val < 4096 := (x 2).isLt
  fin_cases b
  · exact ⟨Nat.le_refl _, Nat.lt_succ_self _⟩
  · exact ⟨Nat.zero_le _, by show (x 1).val < 0 + 128; omega⟩
  · exact ⟨Nat.zero_le _, by show (x 2).val < 0 + 4096; omega⟩

/-- The first two slots are apart from the third. -/
theorem slotS_apart (a : Bool) : Disjoint (slotS a 0 ∪ slotS a 1) (slotS a 2) :=
  Finset.disjoint_union_left.mpr ⟨slotS_disjoint a 0 2 (by decide), slotS_disjoint a 1 2 (by decide)⟩

/-- The three slots are the buffer. -/
theorem slotS_union (a : Bool) : slotS a 0 ∪ slotS a 1 ∪ slotS a 2 = Finset.univ := by
  refine Finset.eq_univ_iff_forall.mpr fun i => ?_
  obtain ⟨j, -, hj⟩ := Finset.mem_biUnion.mp ((slotS_cover a).symm ▸ Finset.mem_univ i)
  fin_cases j
  · exact Finset.mem_union_left _ (Finset.mem_union_left _ hj)
  · exact Finset.mem_union_left _ (Finset.mem_union_right _ hj)
  · exact Finset.mem_union_right _ hj

/-- Slot `j` at contents given for the whole buffer. -/
theorem slotJ_intro (a : Bool) (c : Dev nD) (j : Fin 3) (f : Buf (Elt F) ((scrM a).view.loc (c : Thread nD τ))) :
    (((scrM a).view.loc (c : Thread nD τ)) ↦[slotS a j]{fullShare} f : sProp 𝕄) ⊢ slotJ a c j := by
  unfold slotJ
  rw [slot_set]
  iintro H; iexists f; iexact H

/-- A slot holds something. -/
theorem slotJ_elim (a : Bool) (c : Dev nD) (j : Fin 3) :
    slotJ (F := F) a c j ⊢ iprop(∃ f : Buf (Elt F) ((scrM a).view.loc (c : Thread nD τ)), ((scrM a).view.loc (c : Thread nD τ)) ↦[slotS a j]{fullShare} f) := by
  unfold slotJ
  rw [slot_set]
  iintro ⟨%f, H⟩; iexists f; iexact H

/-- A slot buffer cut into its slots. -/
theorem scr_split (a : Bool) (c : Dev nD) : scrAny (F := F) a c ⊢ iprop(slotJ a c 0 ∗ slotJ a c 1 ∗ slotJ a c 2) := by
  unfold scrAny
  iintro ⟨%f, H⟩
  ihave H := (Entails.of_eq (congrArg (fun S => (((scrM a).view.loc (c : Thread nD τ)) ↦[S]{fullShare} f : sProp 𝕄)) (slotS_union a).symm)) $$ H
  ihave H := (pointsTo_union (ℓ := (scrM a).view.loc (c : Thread nD τ)) (I := slotS a 0 ∪ slotS a 1) (J := slotS a 2) (slotS_apart a)).1 $$ H
  icases H with ⟨H, H2⟩
  ihave H := (pointsTo_union (ℓ := (scrM a).view.loc (c : Thread nD τ)) (I := slotS a 0) (J := slotS a 1) (slotS_disjoint a 0 1 (by decide))).1 $$ H
  icases H with ⟨H0, H1⟩
  isplitl [H0]; · iapply (slotJ_intro a c 0 f) $$ H0
  isplitl [H1]; · iapply (slotJ_intro a c 1 f) $$ H1
  iapply (slotJ_intro a c 2 f) $$ H2

/-- The three slots put together. -/
theorem scr_join (a : Bool) (c : Dev nD) : iprop(slotJ (F := F) a c 0 ∗ slotJ a c 1 ∗ slotJ a c 2) ⊢ scrAny a c := by
  unfold scrAny
  iintro ⟨H0, H1, H2⟩
  ihave H0 := (slotJ_elim a c 0) $$ H0
  ihave H1 := (slotJ_elim a c 1) $$ H1
  ihave H2 := (slotJ_elim a c 2) $$ H2
  icases H0 with ⟨%f0, H0⟩
  icases H1 with ⟨%f1, H1⟩
  icases H2 with ⟨%f2, H2⟩
  ihave H := (pointsTo_join (ℓ := (scrM a).view.loc (c : Thread nD τ)) (I := slotS a 0) (J := slotS a 1) (slotS_disjoint a 0 1 (by decide))) $$ [H0 H1]
  · isplitl [H0]; · iexact H0
    iexact H1
  ihave H := (pointsTo_join (ℓ := (scrM a).view.loc (c : Thread nD τ)) (I := slotS a 0 ∪ slotS a 1) (J := slotS a 2) (slotS_apart a)) $$ [H H2]
  · isplitl [H]; · iexact H
    iexact H2
  iexists _
  iapply (Entails.of_eq (congrArg (fun S => (((scrM a).view.loc (c : Thread nD τ)) ↦[S]{fullShare} _ : sProp 𝕄)) (slotS_union a))) $$ H

end Cert.Ring
-- ==== Proof.Ends.lean ====
/-
# The body

From what the launch deals to one device (`Deal` for each direction, the barrier's part, the buffers) to what the
device is left with: all its semaphores at zero, its buffers, the result block with every device's rows in place.
-/
module

public import proofs.«01_k».proof.Proof.Slots

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (xb : Dev nD → S128x4096.Idx → Elt F .f32) (wb : Dev nD → S4096x256.Idx → Elt F .f32)

/-- What the launch deals to device `c` for direction `a`. -/
def Deal (a : Bool) (c : Dev nD) : sProp 𝕄 :=
  iprop((bigSep Finset.univ fun j : Fin 3 => atPos ER (rcvC a c j) 0 ∅ 0) ∗ (bigSep Finset.univ fun j : Fin 3 => atPos ER (sndC a c j) 0 ∅ 0)
    ∗ atPos ER (crdC a c) 0 ∅ 0 ∗ recvs a c 0 ∗ sends a c 0 ∗ (bigSep (Finset.Ico 0 (C a)) fun i => cred (tallyAt (crdC a c) i 1))
    ∗ creditsOut a c 0 ∗ (bigSep (Finset.Ico 0 (H a)) fun h => readerAt ES (c, a, h) 0) ∗ dutyTok ER (barC (dn a c)) 0 (bd a))

/-- A product over three, written out. -/
theorem three (Φ : Fin 3 → sProp 𝕄) : bigSep Finset.univ Φ = iprop(Φ 0 ∗ Φ 1 ∗ Φ 2) :=
  bigSep_univ_eq_bigSepL [0, 1, 2] (by decide) (by decide) Φ

/-! ## The start of a direction -/

/-- The three empty slots are made free. -/
theorem open3 (a : Bool) (c : Dev nD) :
    iprop(Know xb ∗ (bigSep (Finset.Ico 0 (H a)) fun h => readerAt ES (c, a, h) 0) ∗ scrAny a c) ⊢ (|={Set.univ}=> freed (F := F) a c 3 : sProp 𝕄) := by
  have h3 : 3 ≤ H a := by cases a <;> decide
  iintro ⟨#HK, Hre, Hs⟩
  ihave Hs := (scr_split a c) $$ Hs
  icases Hs with ⟨H0, H1, H2⟩
  ihave H0 := (slotOf_of a c 0 0 rfl) $$ H0
  ihave H1 := (slotOf_of a c 1 1 rfl) $$ H1
  ihave H2 := (slotOf_of a c 2 2 rfl) $$ H2
  imod (free_one xb a c 0 (by omega)) $$ [Hre H0] with Hf
  · isplitr; · iexact HK
    isplitl [Hre]
    · unfold freed freeTo
      isplitl [Hre]; · iexact Hre
      rw [Finset.range_zero, bigSep_empty]; iempintro
    isplitl [H0]; · iexact H0
    iapply (know_reached xb c _ (asem_rcv a (sl 0))) $$ HK
  imod (free_one xb a c 1 (by omega)) $$ [Hf H1] with Hf
  · isplitr; · iexact HK
    isplitl [Hf]; · iexact Hf
    isplitl [H1]; · iexact H1
    iapply (know_reached xb c _ (asem_rcv a (sl 1))) $$ HK
  imod (free_one xb a c 2 (by omega)) $$ [Hf H2] with Hf
  · isplitr; · iexact HK
    isplitl [Hf]; · iexact Hf
    isplitl [H2]; · iexact H2
    iapply (know_reached xb c _ (asem_rcv a (sl 2))) $$ HK
  imodintro
  iexact Hf

/-- At the start every slot is in round 0. -/
theorem rnd_zero (j : Fin 3) : rnd 0 j = 0 := by revert j; decide

/-- The positions of three slots at the start. -/
theorem pos3_zero (cell : Fin 3 → GSem nD τ sig) (h : ∀ j, Know (F := F) xb ⊢ reached ER (cell j) 0) :
    iprop(Know xb ∗ bigSep Finset.univ fun j => atPos ER (cell j) 0 ∅ 0) ⊢ pos3 (F := F) cell 0 := by
  unfold pos3
  simp only [rnd_zero]
  iintro ⟨#HK, Ha⟩
  isplitl [Ha]; · iexact Ha
  iapply (Entails.of_eq (three fun j => reached ER (cell j) 0).symm)
  isplitr; · iapply (h 0) $$ HK
  isplitr; · iapply (h 1) $$ HK
  iapply (h 2) $$ HK

/-- The position of the credit counter at the start. -/
theorem creditPos_zero (a : Bool) (c : Dev nD) : (atPos ER (crdC a c) 0 ∅ 0 : sProp 𝕄) ⊢ creditPos a c 0 := by
  have h : ¬ C a ≤ 0 := by cases a <;> decide
  unfold creditPos
  rw [if_neg h]
  iintro H
  iexists (∅ : Finset ℕ)
  isplitr; · ipureintro; exact ⟨Finset.empty_subset _, Nat.zero_le _⟩
  isplitl [H]; · iexact H
  rw [bigSep_empty]; iempintro

/-- Hop 0 is under way: step 0 can start. -/
theorem dir_start (a : Bool) (c : Dev nD) :
    iprop(Know xb ∗ (bigSep Finset.univ fun j : Fin 3 => atPos ER (rcvC a c j) 0 ∅ 0) ∗ (bigSep Finset.univ fun j : Fin 3 => atPos ER (sndC a c j) 0 ∅ 0)
        ∗ atPos ER (crdC a c) 0 ∅ 0 ∗ recvs a c 0 ∗ sends a c 1 ∗ (bigSep (Finset.Ico 0 (C a)) fun i => cred (tallyAt (crdC a c) i 1))
        ∗ creditsOut a c 0 ∗ freed a c 3 ∗ cred (tallyAt (sndC a c (sl 0)) 0 N))
      ⊢ DirAt (F := F) xb a c 0 := by
  have hf : fr a 0 = 3 := by cases a <;> rfl
  have hfl : flying (F := F) a c 0 = cred (tallyAt (sndC a c (sl 0)) 0 N) := by unfold flying; rw [if_pos (by cases a <;> decide)]
  have ht : tail (F := F) a c 0 = (BI.emp : sProp 𝕄) := by
    unfold tail; rw [Finset.Ico_eq_empty (by cases a <;> decide), bigSep_empty]
  unfold DirAt
  rw [Nat.zero_min]
  unfold Dir
  rw [hf, hfl, ht]
  iintro ⟨#HK, Har, Has, Hac, Hrc, Hs, Hcc, Hco, Hfr, Hfl⟩
  isplitl [Har]
  · iapply (pos3_zero xb (rcvC a c) fun j => know_reached xb c _ (asem_rcv a j))
    isplitr; · iexact HK
    iexact Har
  isplitl [Hrc]; · iexact Hrc
  isplitl [Hac Hcc]
  · unfold creditsIn
    isplitl [Hac]; · iapply (creditPos_zero a c) $$ Hac
    iexact Hcc
  isplitl [Has]
  · iapply (pos3_zero xb (sndC a c) fun j => know_reached xb c _ (asem_snd a j))
    isplitr; · iexact HK
    iexact Has
  isplitl [Hs]; · iexact Hs
  isplitl [Hfl]; · iexact Hfl
  isplitr; · unfold held; iempintro
  isplitr; · iempintro
  isplitr; · unfold xback; iempintro
  isplitl [Hco]; · iexact Hco
  iexact Hfr

/-! ## The end of a direction -/

/-- Three cells whose rounds are over. -/
theorem close3 (cell : Fin 3 → GSem nD τ sig) (s : ℕ) (hk : ∀ j, Know (F := F) xb ⊢ iprop(∃ κ, cellInv ER (Rd (F := F) xb) κ (cell j)))
    (hR : ∀ j r, rnd s j ≤ r → (Rd (F := F) xb).duties (cell j) r = ∅) :
    iprop(Know xb ∗ pos3 (F := F) cell s) ⊢ (|={Set.univ}=> bigSep Finset.univ fun j => semVal (cell j) 0 : sProp 𝕄) := by
  unfold pos3
  iintro ⟨#HK, Ha, -⟩
  ihave Ha := (Entails.of_eq (three fun j => atPos ER (cell j) (rnd s j) ∅ 0)) $$ Ha
  icases Ha with ⟨H0, H1, H2⟩
  ihave #HI0 := (hk 0) $$ HK
  ihave #HI1 := (hk 1) $$ HK
  ihave #HI2 := (hk 2) $$ HK
  icases HI0 with ⟨%κ0, #HI0⟩
  icases HI1 with ⟨%κ1, #HI1⟩
  icases HI2 with ⟨%κ2, #HI2⟩
  imod (cell_close ER (Rd xb) (Set.mem_univ κ0) (fun h => h) (hR 0)) $$ [H0] with H0
  · isplitr; · iexact HI0
    iexact H0
  imod (cell_close ER (Rd xb) (Set.mem_univ κ1) (fun h => h) (hR 1)) $$ [H1] with H1
  · isplitr; · iexact HI1
    iexact H1
  imod (cell_close ER (Rd xb) (Set.mem_univ κ2) (fun h => h) (hR 2)) $$ [H2] with H2
  · isplitr; · iexact HI2
    iexact H2
  imodintro
  iapply (Entails.of_eq (three fun j => semVal (cell j) 0).symm)
  isplitl [H0]; · iexact H0
  isplitl [H1]; · iexact H1
  iexact H2

/-- One cell whose only round is over. -/
theorem close1 (c : Dev nD) (sm : SemLoc sig) (h : ∃ i, asem i = sm) (hR : ∀ r, 1 ≤ r → (Rd (F := F) xb).duties ((c : Thread nD τ), sm) r = ∅) :
    iprop(Know xb ∗ atPos ER ((c : Thread nD τ), sm) 1 ∅ 0) ⊢ (|={Set.univ}=> semVal ((c : Thread nD τ), sm) 0 : sProp 𝕄) := by
  iintro ⟨#HK, H⟩
  ihave #HI := (know_cell xb c sm h) $$ HK
  icases HI with ⟨%κ, #HI⟩
  iapply (cell_close ER (Rd xb) (Set.mem_univ κ) (fun h => h) hR)
  isplitr; · iexact HI
  iexact H

/-- The semaphores of a direction at zero. -/
def zeros (a : Bool) (c : Dev nD) : sProp 𝕄 :=
  iprop((bigSep Finset.univ fun j : Fin 3 => semVal (sndC a c j) 0) ∗ (bigSep Finset.univ fun j : Fin 3 => semVal (rcvC a c j) 0) ∗ semVal (crdC a c) 0)

/-- The last two slots given back and the last block held are the whole buffer. -/
theorem scr_end (a : Bool) (c : Dev nD) : iprop(tail (F := F) a c (H a) ∗ held xb a c (H a)) ⊢ scrAny a c := by
  cases a
  · have ht : tail (F := F) false c (H false) ⊢ iprop(slotOf (c, false, 12) ∗ slotOf (c, false, 13) ∗ bigSep (Finset.Ico 14 14) fun i => slotOf (c, false, i)) :=
      (ico_split (fun i => slotOf (F := F) (c, false, i)) (h := 12) (n := 14) (by decide)).trans
        (sep_mono_right (ico_split (fun i => slotOf (F := F) (c, false, i)) (h := 13) (n := 14) (by decide)))
    have hh : held xb false c (H false) ⊢ slotOf (F := F) (c, false, 14) :=
      (Entails.of_eq (held_last xb false c 14 (by decide))).trans (slotOf_owns false c 14 _)
    iintro ⟨Ht, Hh⟩
    ihave Ht := ht $$ Ht
    ihave Hh := hh $$ Hh
    icases Ht with ⟨H0, H1, -⟩
    iapply (scr_join false c)
    isplitl [H0]; · iapply (slotJ_of false c 12 0 rfl) $$ H0
    isplitl [H1]; · iapply (slotJ_of false c 13 1 rfl) $$ H1
    iapply (slotJ_of false c 14 2 rfl) $$ Hh
  · have ht : tail (F := F) true c (H true) ⊢ iprop(slotOf (c, true, 13) ∗ slotOf (c, true, 14) ∗ bigSep (Finset.Ico 15 15) fun i => slotOf (c, true, i)) :=
      (ico_split (fun i => slotOf (F := F) (c, true, i)) (h := 13) (n := 15) (by decide)).trans
        (sep_mono_right (ico_split (fun i => slotOf (F := F) (c, true, i)) (h := 14) (n := 15) (by decide)))
    have hh : held xb true c (H true) ⊢ slotOf (F := F) (c, true, 15) :=
      (Entails.of_eq (held_last xb true c 15 (by decide))).trans (slotOf_owns true c 15 _)
    iintro ⟨Ht, Hh⟩
    ihave Ht := ht $$ Ht
    ihave Hh := hh $$ Hh
    icases Ht with ⟨H1, H2, -⟩
    iapply (scr_join true c)
    isplitl [Hh]; · iapply (slotJ_of true c 15 0 rfl) $$ Hh
    isplitl [H1]; · iapply (slotJ_of true c 13 1 rfl) $$ H1
    iapply (slotJ_of true c 14 2 rfl) $$ H2

/-- At the end the operand's share is back. -/
theorem xback_end (a : Bool) (c : Dev nD) : xback xb a c (H a) ⊢ (owns (c : Thread nD τ) xM (shr a 0) (xb c) : sProp 𝕄) := by
  cases a <;> exact BIBase.Entails.rfl

/-- At the end all credits have been taken. -/
theorem creditsIn_done (a : Bool) (c : Dev nD) : creditsIn (F := F) a c (H a - 2) ⊢ atPos ER (crdC a c) 1 ∅ 0 := by
  have h : C a ≤ H a - 2 := by cases a <;> decide
  unfold creditsIn creditPos
  rw [if_pos h]
  iintro ⟨H, -⟩; iexact H

/-- At the end no round is left. -/
theorem rnd_over (a : Bool) (j : Fin 3) (r : ℕ) (h : rnd (H a) j ≤ r) : ¬ 3 * r + j.val < H a := by
  have := j.isLt
  unfold rnd at h
  omega

/-- A direction whose hops are all done. -/
theorem dir_end (a : Bool) (c : Dev nD) :
    iprop(Know xb ∗ Dir xb a c (H a)) ⊢ iprop(|={Set.univ}=> (zeros a c ∗ scrAny a c ∗ owns (c : Thread nD τ) xM (shr a 0) (xb c))) := by
  unfold Dir
  iintro ⟨#HK, Hpr, -, Hci, Hps, -, -, Hh, Ht, Hx, -, -⟩
  imod (close3 xb (rcvC a c) (H a) (fun j => know_cell xb c _ (asem_rcv a j)) (fun j r h => by rw [duties_rcv, if_neg (rnd_over a j r h)])) $$ [Hpr] with Hzr
  · isplitr; · iexact HK
    iexact Hpr
  imod (close3 xb (sndC a c) (H a) (fun j => know_cell xb c _ (asem_snd a j)) (fun j r h => by rw [duties_snd, if_neg (rnd_over a j r h)])) $$ [Hps] with Hzs
  · isplitr; · iexact HK
    iexact Hps
  ihave Hci := (creditsIn_done a c) $$ Hci
  imod (close1 xb c _ (asem_crd a) (fun r h => by rw [duties_crd, if_neg (by omega)])) $$ [Hci] with Hzc
  · isplitr; · iexact HK
    iexact Hci
  imodintro
  isplitl [Hzr Hzs Hzc]
  · unfold zeros
    isplitl [Hzs]; · iexact Hzs
    isplitl [Hzr]; · iexact Hzr
    iexact Hzc
  isplitl [Hh Ht]
  · iapply (scr_end xb a c)
    isplitl [Ht]; · iexact Ht
    iexact Hh
  iapply (xback_end xb a c) $$ Hx

end Cert.Ring
-- ==== Proof.Body.lean ====
/-
# The body of the kernel at one device
-/
module

public import proofs.«01_k».proof.Proof.Ends

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (xb : Dev nD → S128x4096.Idx → Elt F .f32) (wb : Dev nD → S4096x256.Idx → Elt F .f32)

/-- All of the device's own semaphores at zero. -/
def AllZero (c : Dev nD) : sProp 𝕄 := iprop(zeros true c ∗ zeros false c ∗ semVal (barC c) 0)

/-- The means of the first send, taken out. -/
theorem sends_zero (a : Bool) (c : Dev nD) : sends (F := F) a c 0 ⊢
    iprop((dutyTok ER (sndC a c (sl 0)) (0 / 3) 0 ∗ dutyTok ER (rcvC a (up a c) (sl 0)) (0 / 3) 0 ∗ writeTok ES (up a c, a, 0) 1) ∗ sends a c 1) := by
  have h : 0 < H a := by cases a <;> decide
  unfold sends
  exact ico_split (fun h => iprop(dutyTok ER (sndC a c (sl h)) (h / 3) 0 ∗ dutyTok ER (rcvC a (up a c) (sl h)) (h / 3) 0 ∗ writeTok ES (up a c, a, h) 1)) h

/-- Sending hop 0, out of the device's own block. -/
theorem wp_first (a : Bool) (c : Dev nD) (O : CellTallies nD τ sig ℕ) :
    iprop(Know xb ∗ freeTo a (up a c) 3 ∗ owns (c : Thread nD τ) xM (shr a 0) (xb c) ∗ sends a c 0 ∗ owesE c (owed a c 0 0 + O))
      ⊢ WP c (send a c 0) iprop(sends (F := F) a c 1 ∗ cred (tallyAt (sndC a c (sl 0)) 0 N) ∗ owesE c (owed a c 1 0 + O)) := by
  have hh : 0 < H a := by cases a <;> decide
  iintro ⟨#HK, #Hf, Hx, Hs, HO⟩
  ihave Hs := (sends_zero a c) $$ Hs
  icases Hs with ⟨⟨Ht1, Ht2, Hw⟩, Hs⟩
  ihave #Hf0 := (freeTo_get a (up a c) (m := 0) (n := 3) (by decide)) $$ Hf
  iapply (WP_last c _ _ _ _ (wp_send xb a c 0 0 O hh)) $$ [Hx Ht1 Ht2 Hw HO]
  · isplitr; · iexact HK
    isplitr; · iexact Hf0
    isplitl [Hx]; · iexact Hx
    isplitl [Ht1]; · iexact Ht1
    isplitl [Ht2]; · iexact Ht2
    isplitl [Hw]; · iexact Hw
    isplitr; · iapply (know_reached xb c _ (asem_snd a (sl 0))) $$ HK
    iexact HO
  iintro ⟨Hc, HO⟩
  isplitl [Hs]; · iexact Hs
  isplitl [Hc]; · iexact Hc
  iexact HO

/-- What the device holds when its steps are done. -/
def Over (c : Dev nD) : sProp 𝕄 := iprop(St xb wb c 16 ∗ owns (c : Thread nD τ) xM fullShare.right.right (xb c) ∗ atPos ER (barC c) 1 ∅ 0)

/-- What it holds when the kernel starts. -/
def Begin (c : Dev nD) : sProp 𝕄 :=
  iprop(Deal true c ∗ Deal false c ∗ (atPos ER (barC c) 0 ∅ 0 ∗ cred (tallyAt (barC c) 0 2)) ∗ (scrAny true c ∗ scrAny false c)
    ∗ owns (c : Thread nD τ) xM fullShare (xb c) ∗ wSt wb c ∗ outSt xb wb c (fun _ => False) ∗ owesE c (O₀ c))

/-- The kernel's program in the order of its pieces. -/
theorem prog_eq (c : Dev nD) : (prog c : KProg F) = (do
    semSignalWord (dn true c) barS 1#32
    semSignalWord (dn false c) barS 1#32
    semWaitWord barS 2#32
    send true c 0
    send false c 0
    ownDot c
    steps c 16 0) := rfl

/-- The program takes the holdings at the start to those after the last step. -/
theorem wp_prog (c : Dev nD) : iprop(Know xb ∗ Begin xb wb c) ⊢ WP c (prog c) (Over xb wb c) := by
  rw [prog_eq]
  unfold Begin Deal
  iintro ⟨#HK, ⟨Tar, Tas, Tac, Trc, Ts, Tcc, Tco, Tre, Tb⟩, ⟨Far, Fas, Fac, Frc, Fs, Fcc, Fco, Fre, Fb⟩, ⟨Hab, Hcb⟩, ⟨Hst, Hsf⟩, Hx, Hw, Ho, HO⟩
  iapply (fupd_wp frame (wpE (defs₀ (F := F)) 𝒱₀ (c : Thread nD τ) none) Set.univ)
  imod (open3 xb true c) $$ [Tre Hst] with Tf
  · isplitr; · iexact HK
    isplitl [Tre]; · iexact Tre
    iexact Hst
  imod (open3 xb false c) $$ [Fre Hsf] with Ff
  · isplitr; · iexact HK
    isplitl [Fre]; · iexact Fre
    iexact Hsf
  imodintro
  ihave Tf := (show freed (F := F) true c 3 ⊢ iprop((bigSep (Finset.Ico 3 (H true)) fun h => readerAt ES (c, true, h) 0) ∗ freeTo true c 3) from BIBase.Entails.rfl) $$ Tf
  ihave Ff := (show freed (F := F) false c 3 ⊢ iprop((bigSep (Finset.Ico 3 (H false)) fun h => readerAt ES (c, false, h) 0) ∗ freeTo false c 3) from BIBase.Entails.rfl) $$ Ff
  icases Tf with ⟨Tre, #Tf⟩
  icases Ff with ⟨Fre, #Ff⟩
  iapply (WP_use c _ _ _ _ _ (wp_report xb true c (owed true c 0 0 + owed false c 0 0 + owedBar false c))) $$ [HO Tb]
  · isplitr; · iexact HK
    isplitl [HO]; · iexact HO
    isplitl [Tb]; · iexact Tb
    iexact Tf
  iintro HO
  iapply (WP_use c _ _ _ _ _ (wp_report xb false c (owed true c 0 0 + owed false c 0 0))) $$ [HO Fb]
  · isplitr; · iexact HK
    isplitl [HO]; · iexact HO
    isplitl [Fb]; · iexact Fb
    iexact Ff
  iintro HO
  iapply (WP_use c _ _ _ _ _ (wp_barrier xb c (owed true c 0 0 + owed false c 0 0)
      (above_add (above_owed true c (by decide) (by decide)) (above_owed false c (by decide) (by decide))))) $$ [HO Hcb Hab]
  · isplitr; · iexact HK
    isplitl [Hcb]; · iexact Hcb
    isplitl [HO]; · iexact HO
    iexact Hab
  iintro ⟨HO, Hab, #Hut, #Huf⟩
  ihave Hx := (owns_split c xM fullShare (xb c)) $$ Hx
  icases Hx with ⟨Hxl, Hxr⟩
  ihave Hxr := (owns_split c xM fullShare.right (xb c)) $$ Hxr
  icases Hxr with ⟨Hxrl, Hxrr⟩
  iapply (WP_use c _ _ _ _ _ (wp_first xb true c (owed false c 0 0))) $$ [HO Hxl Ts]
  · isplitr; · iexact HK
    isplitr; · iexact Hut
    isplitl [Hxl]; · iexact Hxl
    isplitl [Ts]; · iexact Ts
    iexact HO
  iintro ⟨Ts, Tfl, HO⟩
  ihave HO := (owes_comm c _ _) $$ HO
  iapply (WP_use c _ _ _ _ _ (wp_first xb false c (owed true c 1 0))) $$ [HO Hxrl Fs]
  · isplitr; · iexact HK
    isplitr; · iexact Huf
    isplitl [Hxrl]; · iexact Hxrl
    isplitl [Fs]; · iexact Fs
    iexact HO
  iintro ⟨Fs, Ffl, HO⟩
  ihave HO := (owes_comm c _ _) $$ HO
  iapply (WP_use c _ _ _ _ _ (wp_ownDot xb wb c fullShare.right.right (fun _ => False))) $$ [Hxrr Hw Ho]
  · isplitl [Hxrr]; · iexact Hxrr
    isplitl [Hw]; · iexact Hw
    iexact Ho
  iintro ⟨Hxrr, Hw, Ho⟩
  iapply (WP_last c _ _ _ _ (wp_steps xb wb c 16 0)) $$ [Tar Tas Tac Trc Ts Tcc Tco Tre Tfl Far Fas Fac Frc Fs Fcc Fco Fre Ffl Hw Ho HO]
  · isplitr; · iexact HK
    isplitr; · iexact Hut
    isplitr; · iexact Huf
    unfold St
    isplitl [Tar Tas Tac Trc Ts Tcc Tco Tre Tfl]
    · iapply (dir_start xb true c)
      isplitr; · iexact HK
      isplitl [Tar]; · iexact Tar
      isplitl [Tas]; · iexact Tas
      isplitl [Tac]; · iexact Tac
      isplitl [Trc]; · iexact Trc
      isplitl [Ts]; · iexact Ts
      isplitl [Tcc]; · iexact Tcc
      isplitl [Tco]; · iexact Tco
      isplitl [Tre]
      · unfold freed
        isplitl [Tre]; · iexact Tre
        iexact Tf
      iexact Tfl
    isplitl [Far Fas Fac Frc Fs Fcc Fco Fre Ffl]
    · iapply (dir_start xb false c)
      isplitr; · iexact HK
      isplitl [Far]; · iexact Far
      isplitl [Fas]; · iexact Fas
      isplitl [Fac]; · iexact Fac
      isplitl [Frc]; · iexact Frc
      isplitl [Fs]; · iexact Fs
      isplitl [Fcc]; · iexact Fcc
      isplitl [Fco]; · iexact Fco
      isplitl [Fre]
      · unfold freed
        isplitl [Fre]; · iexact Fre
        iexact Ff
      iexact Ffl
    isplitl [Hw]; · iexact Hw
    isplitl [Ho]
    · iapply (outSt_le xb wb c (fun d hd => Or.inr (hd.resolve_right fun ⟨_, i, hi, _⟩ => absurd hi (Nat.not_lt_zero i)))) $$ Ho
    iexact HO
  iintro HS
  unfold Over
  isplitl [HS]; · iexact HS
  isplitl [Hxrr]; · iexact Hxrr
  iexact Hab

/-- What is left when the kernel ends. -/
def End (c : Dev nD) : sProp 𝕄 :=
  iprop(AllZero c ∗ (scrAny true c ∗ scrAny false c) ∗ owns (c : Thread nD τ) xM fullShare (xb c) ∗ wSt wb c ∗ outSt xb wb c (fun _ => True) ∗ owesE c 0)

/-- After the last step nothing is owed. -/
theorem owed_over (c : Dev nD) : owed true c (16 + 1) (16 - 1) + owed false c (16 + 1) (16 - 1) = 0 := by
  unfold owed
  simp only [Finset.Ico_eq_empty (show ¬ 16 + 1 < 16 by decide), Finset.Ico_eq_empty (show ¬ 16 + 1 < 15 by decide),
    Finset.Ico_eq_empty (show ¬ 16 - 1 < C true by decide), Finset.Ico_eq_empty (show ¬ 16 - 1 < C false by decide), Finset.sum_empty, add_zero]

/-- After the last step both directions are at their ends. -/
theorem dirAt_end (a : Bool) (c : Dev nD) : DirAt xb a c 16 ⊢ Dir xb a c (H a) := by
  unfold DirAt; rw [min_eq_right (H_le a)]

/-- The holdings after the last step, put together again. -/
theorem over_end (c : Dev nD) : iprop(Know xb ∗ Over xb wb c) ⊢ iprop(|={Set.univ}=> End xb wb c) := by
  unfold Over St
  iintro ⟨#HK, ⟨HT, HF, Hw, Ho, HO⟩, Hxrr, Hab⟩
  imod (dir_end xb true c) $$ [HT] with ⟨Tz, Ts, Tx⟩
  · isplitr; · iexact HK
    iapply (dirAt_end xb true c) $$ HT
  imod (dir_end xb false c) $$ [HF] with ⟨Fz, Fs, Fx⟩
  · isplitr; · iexact HK
    iapply (dirAt_end xb false c) $$ HF
  imod (close1 xb c _ asem_bar (fun r h => by rw [duties_bar, if_neg (by omega)])) $$ [Hab] with Hz
  · isplitr; · iexact HK
    iexact Hab
  imodintro
  unfold End AllZero
  isplitl [Tz Fz Hz]
  · isplitl [Tz]; · iexact Tz
    isplitl [Fz]; · iexact Fz
    iexact Hz
  isplitl [Ts Fs]
  · isplitl [Ts]; · iexact Ts
    iexact Fs
  isplitl [Tx Fx Hxrr]
  · iapply (owns_join c xM fullShare (xb c) (xb c))
    isplitl [Tx]; · iexact Tx
    iapply (owns_join c xM fullShare.right (xb c) (xb c))
    isplitl [Fx]; · iexact Fx
    iexact Hxrr
  isplitl [Hw]; · iexact Hw
  isplitl [Ho]; · iapply (outSt_le xb wb c (fun d _ => done_all c d)) $$ Ho
  iapply (Entails.of_eq (congrArg (owesE c) (owed_over c))) $$ HO

/-- A last change of ghost state after a program. -/
theorem WP_fupd (c : Dev nD) (p : KProg F) (Q : sProp 𝕄) : WP c p iprop(|={Set.univ}=> Q) ⊢ WP c p Q :=
  wp_fupd frame (wpE (defs₀ (F := F)) 𝒱₀ (c : Thread nD τ) none) Set.univ p (fun _ => Q)

/-- The kernel at one device. -/
theorem wp_body (c : Dev nD) : iprop(Know xb ∗ Begin xb wb c) ⊢ WP c (prog c) (End xb wb c) := by
  have h : iprop(Know xb ∗ Begin xb wb c) ⊢ WP c (prog c) iprop(|={Set.univ}=> End xb wb c) := by
    iintro ⟨#HK, HB⟩
    iapply (WP_last c _ _ _ _ (wp_prog xb wb c)) $$ [HB]
    · isplitr; · iexact HK
      iexact HB
    iintro HO
    iapply (over_end xb wb c)
    isplitr; · iexact HK
    iexact HO
  exact h.trans (WP_fupd c _ _)

end Cert.Ring
-- ==== Proof.Fund.lean ====
/-
# Dealing the ghost state

Every device is given the positions of its own cells, the tokens with which it pays at its neighbours' cells, and its
rights to the slots.
-/
module

public import proofs.«01_k».proof.Proof.Body

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (xb : Dev nD → S128x4096.Idx → Elt F .f32)

/-! ## Cells and tokens -/

/-- Over pairs: over the first, then over the second. -/
theorem over_pairs {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rw [Finset.empty_product, bigSep_empty, bigSep_empty]
  | insert i s hi ih =>
    have hd : Disjoint (t.map ⟨Prod.mk i, fun _ _ e => (Prod.mk.inj e).2⟩) (s ×ˢ t) := Finset.disjoint_left.mpr fun x hx hx' => by
      obtain ⟨j, -, rfl⟩ := Finset.mem_map.mp hx
      exact hi (Finset.mem_product.mp hx').1
    have hu : insert i s ×ˢ t = t.map ⟨Prod.mk i, fun _ _ e => (Prod.mk.inj e).2⟩ ∪ s ×ˢ t := by
      ext ⟨x, y⟩
      rw [Finset.mem_product, Finset.mem_insert, Finset.mem_union, Finset.mem_map, Finset.mem_product]
      constructor
      · rintro ⟨hx, hy⟩
        rcases hx with hx | hx
        · exact Or.inl ⟨y, hy, Prod.ext hx.symm rfl⟩
        · exact Or.inr ⟨hx, hy⟩
      · rintro (⟨j, hj, e⟩ | ⟨hx, hy⟩)
        · obtain ⟨e1, e2⟩ := Prod.mk.inj e
          exact ⟨Or.inl e1.symm, e2 ▸ hj⟩
        · exact ⟨Or.inr hx, hy⟩
    rw [hu, bigSep_union hd, bigSep_map, ih, bigSep_insert hi]
    rfl

/-- The fifteen semaphores are different. -/
theorem asem_inj : Function.Injective asem := by
  intro i j; revert i j; decide

/-- So are all devices' cells. -/
theorem kcell_inj : Function.Injective (kcell : Dev nD × Fin 15 → GSem nD τ sig) := by
  rintro ⟨c, i⟩ ⟨c', i'⟩ e
  have hc : c = c' := congrArg (fun g : GSem nD τ sig => g.1.1) e
  have hi : i = i' := asem_inj (congrArg Prod.snd e)
  rw [hc, hi]

/-- All the cells of the protocol. -/
def allCells : Finset (GSem nD τ sig) := Finset.univ.map ⟨kcell, kcell_inj⟩

/-- The tokens a device is given to pay with: a hop's arrival and its departure, a credit, a barrier unit. -/
def tk (x : Dev nD × Bool × Fin 4 × ℕ) : GSem nD τ sig × ℕ × ℕ :=
  match x.2.2.1 with
  | 0 => (rcvC x.2.1 (up x.2.1 x.1) (sl x.2.2.2), x.2.2.2 / 3, 0)
  | 1 => (sndC x.2.1 x.1 (sl x.2.2.2), x.2.2.2 / 3, 0)
  | 2 => (crdC x.2.1 (dn x.2.1 x.1), 0, x.2.2.2)
  | 3 => (barC (dn x.2.1 x.1), 0, bd x.2.1 + 2 * x.2.2.2)

/-- Different devices have different neighbours on one side, -/
theorem up_inj (a : Bool) {c d : Dev nD} (h : up a c = up a d) : c = d := by rw [← dn_up a c, h, dn_up]
/-- and on the other. -/
theorem dn_inj (a : Bool) {c d : Dev nD} (h : dn a c = dn a d) : c = d := by rw [← up_dn a c, h, up_dn]

/-- A slot and a round make one hop. -/
theorem sl_eq {h h' : ℕ} (e : sl h = sl h') (e' : h / 3 = h' / 3) : h = h' := by
  have : h % 3 = h' % 3 := congrArg Fin.val e
  omega

/-- The duties are different. -/
theorem tk_inj : Function.Injective tk := by
  rintro ⟨c, a, k, h⟩ ⟨c', a', k', h'⟩ e
  have er : role (tk (c, a, k, h)).1.2 = role (tk (c', a', k', h')).1.2 := by rw [e]
  have ec : (tk (c, a, k, h)).1.1.1 = (tk (c', a', k', h')).1.1.1 := by rw [e]
  have e1 : (tk (c, a, k, h)).2.1 = (tk (c', a', k', h')).2.1 := by rw [e]
  have e2 : (tk (c, a, k, h)).2.2 = (tk (c', a', k', h')).2.2 := by rw [e]
  clear e
  fin_cases k <;> fin_cases k' <;> simp only [tk, role_rcv, role_snd, role_crd, role_bar] at er ec e1 e2
  all_goals first | (exfalso; simp at er; done) | skip
  · injection er with ha hs; subst ha
    rw [up_inj a ec, sl_eq hs e1]
  · injection er with ha hs; subst ha
    have hc : c = c' := ec
    rw [hc, sl_eq hs e1]
  · injection er with ha; subst ha
    rw [dn_inj a ec, show h = h' from e2]
  · have ha : a = a' := by cases a <;> cases a' <;> first | rfl | (simp only [bd] at e2; omega)
    subst ha
    rw [dn_inj a ec, show h = h' by omega]

/-- All the tokens. -/
def allToks : Finset (GSem nD τ sig × ℕ × ℕ) :=
  ((Finset.univ : Finset (Dev nD)) ×ˢ (Finset.univ : Finset Bool) ×ˢ (Finset.univ : Finset (Fin 4)) ×ˢ Finset.range 16).map ⟨tk, tk_inj⟩

/-- All cells, device by device. -/
theorem over_cells (Φ : GSem nD τ sig → sProp 𝕄) :
    bigSep allCells Φ = bigSep Finset.univ fun c : Dev nD => bigSep Finset.univ fun i : Fin 15 => Φ (kcell (c, i)) := by
  unfold allCells; rw [bigSep_map, bigSep_univ_prod]; rfl

/-- All duties, device by device. -/
theorem over_toks (Φ : GSem nD τ sig × ℕ × ℕ → sProp 𝕄) :
    bigSep allToks Φ = bigSep Finset.univ fun c : Dev nD => bigSep Finset.univ fun a : Bool => bigSep Finset.univ fun k : Fin 4 =>
      bigSep (Finset.range 16) fun h => Φ (tk (c, a, k, h)) := by
  unfold allToks; rw [bigSep_map]; simp only [over_pairs]; rfl

/-- All slots, device by device. -/
theorem over_keys (Φ : Key → sProp 𝕄) :
    bigSep keys Φ = bigSep Finset.univ fun c : Dev nD => bigSep Finset.univ fun a : Bool => bigSep (Finset.range 16) fun h => Φ (c, a, h) := by
  unfold keys; simp only [over_pairs]

/-- What is indexed by the landing device, indexed by the sending device. -/
theorem over_keys_up (Φ : Key → sProp 𝕄) :
    bigSep keys Φ = bigSep Finset.univ fun c : Dev nD => bigSep Finset.univ fun a : Bool => bigSep (Finset.range 16) fun h => Φ (up a c, a, h) := by
  rw [over_keys, bigSep_univ_comm]
  conv_rhs => rw [bigSep_univ_comm]
  exact bigSep_congr fun a _ => bigSep_univ_equiv (ring a) (fun c : Dev nD => bigSep (Finset.range 16) fun h => Φ (c, a, h))

/-- Each hop writes its slot once. -/
theorem over_writes (Φ : Key → ℕ → sProp 𝕄) : bigSep (keys ×ˢ Finset.range 1) (fun x => Φ x.1 (x.2 + 1)) = bigSep keys fun k => Φ k 1 := by
  rw [over_pairs]
  exact bigSep_congr fun k _ => by rw [Finset.range_one, bigSep_singleton]

/-! ## What each device is dealt -/

/-- The tokens dealt to `c` for direction `a`. -/
def payA (a : Bool) (c : Dev nD) : sProp 𝕄 :=
  bigSep Finset.univ fun k : Fin 4 => bigSep (Finset.range 16) fun h => dutyTok ER (tk (c, a, k, h)).1 (tk (c, a, k, h)).2.1 (tk (c, a, k, h)).2.2

/-- The slots' rights dealt to `c` for direction `a`. -/
def slotA (a : Bool) (c : Dev nD) : sProp 𝕄 :=
  iprop((bigSep (Finset.range 16) fun h => readerAt ES (c, a, h) 0) ∗ bigSep (Finset.range 16) fun h => writeTok ES (up a c, a, h) 1)

def Pos (c : Dev nD) : sProp 𝕄 := bigSep Finset.univ fun i : Fin 15 => atPos ER (kcell (c, i)) 0 ∅ 0
def Pay (c : Dev nD) : sProp 𝕄 := bigSep Finset.univ fun a : Bool => iprop(payA a c ∗ slotA a c)
def Rounds0 (c : Dev nD) : sProp 𝕄 := bigSep Finset.univ fun i : Fin 15 => roundState ER (Rd (F := F) xb) (kcell (c, i)) 0

instance slotsInv_persistent : BI.Persistent (slotsInv (F := F)) := by unfold slotsInv; infer_instance
instance reached0_persistent : BI.Persistent (reached0 (F := F)) := by unfold reached0; infer_instance

/-- What is known before the cells' invariants are. -/
def Known0 : sProp 𝕄 := iprop(slotsInv (F := F) ∗ reached0 (F := F))
instance known0_persistent : BI.Persistent (Known0 (F := F)) := by unfold Known0; infer_instance

def G (c : Dev nD) : sProp 𝕄 := iprop(Rounds0 xb c ∗ Pos c ∗ Pay c ∗ Known0)

/-- What is always known helps at every member. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- An invariant under some name. -/
theorem name_any (ι : ℕ) (k : Key) : slotInv (ES (F := F)) ι k (slotOf (F := F) k) ⊢ iprop(∃ ι, slotInv (ES (F := F)) ι k (slotOf (F := F) k)) := by
  iintro H; iexists ι; iexact H

/-- All invariants, each under some name. -/
theorem names_any (ιs : Key → ℕ) : bigSep keys (fun k => slotInv (ES (F := F)) (ιs k) k (slotOf (F := F) k))
    ⊢ bigSep keys fun k : Key => iprop(∃ ι, slotInv (ES (F := F)) ι k (slotOf (F := F) k)) :=
  bigSep_mono fun k _ => name_any (ιs k) k

/-- The slots' ghost state, made into their invariants and rights. -/
theorem slots_open : BI.own (ES (F := F) (initSlots keys 1)) ⊢
    (|={Set.univ}=> (slotsInv (F := F) ∗ bigSep keys (fun k => readerAt ES k 0) ∗ bigSep keys (fun k => writeTok ES k 1)) : sProp 𝕄) := by
  iintro H
  imod (slots_init (Name := ℕ) ES keys 1 (slotOf (F := F))) $$ H with ⟨%ιs, -, HI, HR, HW⟩
  imodintro
  isplitl [HI]
  · unfold slotsInv
    iapply (names_any ιs) $$ HI
  isplitl [HR]; · iexact HR
  iapply (Entails.of_eq (over_writes fun k n => writeTok (ES (F := F)) k n)) $$ HW

/-- All the ghost state, dealt to the devices. -/
theorem fund_all : iprop(BI.own (ER (F := F) (initOf allCells allToks)) ∗ BI.own (ES (F := F) (initSlots keys 1)))
    ⊢ (|={Set.univ}=> bigSep Finset.univ (G xb) : sProp 𝕄) := by
  iintro ⟨HE, HS⟩
  imod (Rounds.fund ER (Rd xb) allCells allToks) $$ HE with ⟨Hst, #Hr, Hat, Htok⟩
  imod (slots_open (F := F)) $$ HS with ⟨#HI, HR, HW⟩
  imodintro
  ihave Hst := (Entails.of_eq (over_cells fun g => roundState ER (Rd xb) g 0)) $$ Hst
  ihave Hat := (Entails.of_eq (over_cells (F := F) fun g => atPos ER g 0 ∅ 0)) $$ Hat
  ihave Htok := (Entails.of_eq (over_toks (F := F) fun x => dutyTok ER x.1 x.2.1 x.2.2)) $$ Htok
  ihave HR := (Entails.of_eq (over_keys (F := F) fun k => readerAt ES k 0)) $$ HR
  ihave HW := (Entails.of_eq (over_keys_up (F := F) fun k => writeTok ES k 1)) $$ HW
  iapply (with_persistent (R := Known0 (F := F)) (S := Finset.univ) (Φ := fun c => iprop(Rounds0 xb c ∗ Pos c ∗ Pay c)) fun c _ => (show _ ⊢ G xb c from by
    unfold G; iintro ⟨#HK, H1, H2, H3⟩
    isplitl [H1]; · iexact H1
    isplitl [H2]; · iexact H2
    isplitl [H3]; · iexact H3
    iexact HK))
  isplitr
  · unfold Known0 reached0
    isplitr; · iexact HI
    iapply (Entails.of_eq (show bigSep allCells (fun g => reached (ER (F := F)) g 0) = _ from by unfold allCells; rw [bigSep_map]; rfl)) $$ Hr
  unfold Rounds0 Pos Pay payA slotA
  simp only [bigSep_sep']
  isplitl [Hst]; · iexact Hst
  isplitl [Hat]; · iexact Hat
  isplitl [Htok]; · iexact Htok
  isplitl [HR]; · iexact HR
  iexact HW

end Cert.Ring

end
-- ==== Proof.Deal.lean ====
/-
# What each device starts from

The invariants of all cells are made at once and known to every device; with what it was dealt and the credits of the
launch, that is a device's part of the protocol (`start`).
-/
module

public import proofs.«01_k».proof.Proof.Fund

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (xb : Dev nD → S128x4096.Idx → Elt F .f32)

/-! ## The fifteen semaphores, sorted -/

/-- The kernel's own semaphores: all but the barrier. -/
def osem (i : Fin 14) : SemLoc sig := asem i.castSucc

/-- One direction's semaphores. -/
def dirSems (Φ : SemLoc sig → sProp 𝕄) (a : Bool) : sProp 𝕄 :=
  iprop((bigSep Finset.univ fun j : Fin 3 => Φ (.dma (rcvS a j))) ∗ (bigSep Finset.univ fun j : Fin 3 => Φ (.dma (sndS a j))) ∗ Φ (.reg (crdS a)))

/-- The fourteen semaphores of the call, written out. -/
theorem fourteen (Φ : SemLoc sig → sProp 𝕄) : (bigSep Finset.univ fun i : Fin 14 => Φ (osem i))
    = iprop(Φ (.dma (sndS true 0)) ∗ Φ (.dma (sndS true 1)) ∗ Φ (.dma (sndS true 2)) ∗ Φ (.dma (rcvS true 0)) ∗ Φ (.dma (rcvS true 1)) ∗ Φ (.dma (rcvS true 2))
      ∗ Φ (.dma (sndS false 0)) ∗ Φ (.dma (sndS false 1)) ∗ Φ (.dma (sndS false 2)) ∗ Φ (.dma (rcvS false 0)) ∗ Φ (.dma (rcvS false 1)) ∗ Φ (.dma (rcvS false 2))
      ∗ Φ (.reg (crdS true)) ∗ Φ (.reg (crdS false))) :=
  bigSep_univ_eq_bigSepL [0, 1, 2, 3, 4, 5, 6, 7, 8, 9, 10, 11, 12, 13] (by decide) (by decide) fun i : Fin 14 => Φ (osem i)

/-- The same, direction by direction. -/
theorem fourteen_sort (Φ : SemLoc sig → sProp 𝕄) : (bigSep Finset.univ fun i : Fin 14 => Φ (osem i)) ⊢ iprop(dirSems Φ true ∗ dirSems Φ false) := by
  unfold dirSems
  rw [fourteen, three, three, three, three]
  iintro ⟨a0, a1, a2, b0, b1, b2, d0, d1, d2, e0, e1, e2, c0, c1⟩
  isplitl [a0 a1 a2 b0 b1 b2 c0]
  · isplitl [b0 b1 b2]
    · isplitl [b0]; · iexact b0
      isplitl [b1] <;> iassumption
    isplitl [a0 a1 a2]
    · isplitl [a0]; · iexact a0
      isplitl [a1] <;> iassumption
    iexact c0
  isplitl [e0 e1 e2]
  · isplitl [e0]; · iexact e0
    isplitl [e1] <;> iassumption
  isplitl [d0 d1 d2]
  · isplitl [d0]; · iexact d0
    isplitl [d1] <;> iassumption
  iexact c1

/-- And back. -/
theorem fourteen_unsort (Φ : SemLoc sig → sProp 𝕄) : iprop(dirSems Φ true ∗ dirSems Φ false) ⊢ bigSep Finset.univ fun i : Fin 14 => Φ (osem i) := by
  unfold dirSems
  rw [fourteen, three, three, three, three]
  iintro ⟨⟨⟨b0, b1, b2⟩, ⟨a0, a1, a2⟩, c0⟩, ⟨e0, e1, e2⟩, ⟨d0, d1, d2⟩, c1⟩
  isplitl [a0]; · iexact a0
  isplitl [a1]; · iexact a1
  isplitl [a2]; · iexact a2
  isplitl [b0]; · iexact b0
  isplitl [b1]; · iexact b1
  isplitl [b2]; · iexact b2
  isplitl [d0]; · iexact d0
  isplitl [d1]; · iexact d1
  isplitl [d2]; · iexact d2
  isplitl [e0]; · iexact e0
  isplitl [e1]; · iexact e1
  isplitl [e2]; · iexact e2
  isplitl [c0] <;> iassumption

/-- The barrier beside the other fourteen. -/
theorem fifteen_last (Φ : SemLoc sig → sProp 𝕄) : (bigSep Finset.univ fun i : Fin 15 => Φ (asem i))
    = iprop(Φ (.reg barS) ∗ bigSep Finset.univ fun i : Fin 14 => Φ (osem i)) := by
  have hu : (Finset.univ : Finset (Fin 15)) = insert (Fin.last 14) ((Finset.univ : Finset (Fin 14)).map Fin.castSuccEmb) := by decide
  rw [hu, bigSep_insert (by decide), bigSep_map]
  rfl

/-! ## The cells' invariants -/

/-- What every device has after the cells' invariants are made. -/
def G' (c : Dev nD) : sProp 𝕄 := iprop(cellsInv xb ∗ Known0 ∗ Pos c ∗ Pay c)

instance cellsInv_persistent : BI.Persistent (cellsInv (F := F) xb) := by unfold cellsInv; infer_instance

def CellsAt (c : Dev nD) : sProp 𝕄 := bigSep Finset.univ fun i : Fin 15 => iprop(∃ κ, cellInv ER (Rd (F := F) xb) κ (kcell (c, i)))

/-- A counter at zero becomes a cell of the protocol. -/
theorem cell_alloc (g : GSem nD τ sig) : iprop(semVal g 0 ∗ roundState ER (Rd (F := F) xb) g 0) ⊢ (|={Set.univ}=> ∃ κ, cellInv ER (Rd (F := F) xb) κ g : sProp 𝕄) :=
  (Rounds.body_intro ER (Rd xb) g).trans inv_alloc

/-- So do all of a device's counters. -/
theorem cells_alloc (c : Dev nD) : iprop((bigSep Finset.univ fun i : Fin 15 => semVal (kcell (c, i)) 0) ∗ Rounds0 xb c) ⊢ (|={Set.univ}=> CellsAt xb c : sProp 𝕄) := by
  unfold Rounds0 CellsAt
  rw [← bigSep_sep']
  exact (bigSep_mono fun i _ => cell_alloc xb (kcell (c, i))).trans (bigSep_fupd _ _)

/-- The call's fourteen counters and the barrier. -/
theorem sems_fifteen (c : Dev nD) (Z : sProp 𝕄) (hZ : Z = bigSep Finset.univ fun i : Fin 14 => semVal (kcell (c, i.castSucc)) 0) :
    iprop(Z ∗ semVal (barC c) 0) ⊢ (bigSep Finset.univ fun i : Fin 15 => semVal (kcell (c, i)) 0 : sProp 𝕄) := by
  rw [hZ]
  have e := fifteen_last (F := F) fun s => semVal ((c : Thread nD τ), s) 0
  iintro ⟨H, Hb⟩
  iapply (Entails.of_eq e.symm)
  isplitl [Hb]; · iexact Hb
  iexact H

/-- One device's counters become cells. -/
theorem dev_alloc (c : Dev nD) (Z : sProp 𝕄) (hZ : Z = bigSep Finset.univ fun i : Fin 14 => semVal (kcell (c, i.castSucc)) 0) :
    iprop(Z ∗ semVal (barC c) 0 ∗ G xb c) ⊢ (|={Set.univ}=> (CellsAt xb c ∗ Pos c ∗ Pay c ∗ Known0) : sProp 𝕄) := by
  unfold G
  iintro ⟨HZ, Hb, Hr, Hp, Ht, HK⟩
  ihave Hs := (sems_fifteen c Z hZ) $$ [HZ Hb]
  · isplitl [HZ] <;> iassumption
  imod (cells_alloc xb c) $$ [Hs Hr] with HI
  · isplitl [Hs] <;> iassumption
  imodintro
  isplitl [HI]; · iexact HI
  isplitl [Hp]; · iexact Hp
  isplitl [Ht] <;> iassumption

/-- All devices' cells together. -/
theorem cellsInv_of : (bigSep Finset.univ fun c : Dev nD => CellsAt xb c) ⊢ cellsInv (F := F) xb := by
  unfold cellsInv CellsAt
  rw [bigSep_univ_prod]

/-- What is known on every device is known. -/
theorem known_of : (bigSep Finset.univ fun _ : Dev nD => Known0 (F := F)) ⊢ Known0 (F := F) := bigSep_elim (Finset.mem_univ (0 : Dev nD))

/-- What is always known is given to every device. -/
theorem share_all (S : Finset (Dev nD)) (R₁ R₂ : sProp 𝕄) [BI.Persistent R₁] [BI.Persistent R₂] (P Q : Dev nD → sProp 𝕄) :
    iprop(R₁ ∗ R₂ ∗ bigSep S P ∗ bigSep S Q) ⊢ bigSep S fun c => iprop(R₁ ∗ R₂ ∗ P c ∗ Q c) := by
  rw [bigSep_sep', bigSep_sep', bigSep_sep']
  iintro ⟨H1, H2, HP, HQ⟩
  isplitl [H1]; · iapply (BI.bigSep_of_persistent S R₁) $$ H1
  isplitl [H2]; · iapply (BI.bigSep_of_persistent S R₂) $$ H2
  isplitl [HP] <;> iassumption

/-- Every device's holdings once all cells are made. -/
theorem regroup : (bigSep Finset.univ fun c : Dev nD => iprop(CellsAt xb c ∗ Pos c ∗ Pay c ∗ Known0)) ⊢ bigSep Finset.univ (G' (F := F) xb) := by
  rw [bigSep_sep', bigSep_sep', bigSep_sep']
  iintro ⟨HI, Hp, Ht, HK⟩
  ihave HI := (cellsInv_of xb) $$ HI
  ihave HK := (known_of (F := F)) $$ HK
  iapply (share_all Finset.univ (cellsInv (F := F) xb) (Known0 (F := F)) Pos Pay)
  isplitl [HI]; · iexact HI
  isplitl [HK]; · iexact HK
  isplitl [Hp] <;> iassumption

/-- All the invariants made, and known to every device. -/
theorem glob (Z Zb : Dev nD → sProp 𝕄) (hZ : ∀ c, Z c = bigSep Finset.univ fun i : Fin 14 => semVal (kcell (c, i.castSucc)) 0) (hb : ∀ c, Zb c = semVal (barC c) 0) :
    (bigSep Finset.univ fun c => iprop(Z c ∗ Zb c ∗ G xb c)) ⊢ (|={Set.univ}=> bigSep Finset.univ (G' xb) : sProp 𝕄) :=
  ((bigSep_mono fun c _ => by rw [hb c]; exact dev_alloc xb c (Z c) (hZ c)).trans (bigSep_fupd _ _)).trans (BI.fupd_mono (regroup xb))

/-! ## The credits -/

/-- The credits of one direction. -/
theorem creds_dir (a : Bool) (c : Dev nD) : (Pipeline.launchCred (fun d => owed a d 0 0) c : sProp 𝕄)
    ⊢ iprop(recvs a c 0 ∗ bigSep (Finset.Ico 0 (C a)) fun i => cred (tallyAt (crdC a c) i 1)) := by
  unfold owed recvs
  rw [Pipeline.launchCred_add, Pipeline.launchCred_sum, Pipeline.launchCred_sum]
  exact BI.sep_mono
    (bigSep_mono fun i _ => Pipeline.launchCred_tallyAt (.dma (rcvS a (sl i))) (up a) (dn a) (up_dn a) (dn_up a) i N c)
    (bigSep_mono fun i _ => Pipeline.launchCred_tallyAt (.reg (crdS a)) (dn a) (up a) (dn_up a) (up_dn a) i 1 c)

/-- The credit at the barrier. -/
theorem creds_bar (a : Bool) (c : Dev nD) : (Pipeline.launchCred (owedBar a) c : sProp 𝕄) ⊢ cred (tallyAt (barC c) 0 1) :=
  Pipeline.launchCred_tallyAt (.reg barS) (dn a) (up a) (dn_up a) (up_dn a) 0 1 c

/-- All of a device's credits. -/
theorem creds (c : Dev nD) : (Pipeline.launchCred O₀ c : sProp 𝕄)
    ⊢ iprop((recvs true c 0 ∗ bigSep (Finset.Ico 0 (C true)) fun i => cred (tallyAt (crdC true c) i 1))
      ∗ (recvs false c 0 ∗ bigSep (Finset.Ico 0 (C false)) fun i => cred (tallyAt (crdC false c) i 1)) ∗ cred (tallyAt (barC c) 0 2)) := by
  have e : (O₀ : Dev nD → CellTallies nD τ sig ℕ) = fun d => ((owed true d 0 0 + owed false d 0 0) + owedBar false d) + owedBar true d := rfl
  rw [e, Pipeline.launchCred_add (fun d => (owed true d 0 0 + owed false d 0 0) + owedBar false d) (owedBar true),
    Pipeline.launchCred_add (fun d => owed true d 0 0 + owed false d 0 0) (owedBar false),
    Pipeline.launchCred_add (fun d => owed true d 0 0) (fun d => owed false d 0 0)]
  iintro ⟨⟨⟨H1, H2⟩, H3⟩, H4⟩
  ihave H1 := (creds_dir true c) $$ H1
  ihave H2 := (creds_dir false c) $$ H2
  ihave H3 := (creds_bar false c) $$ H3
  ihave H4 := (creds_bar true c) $$ H4
  isplitl [H1]; · iexact H1
  isplitl [H2]; · iexact H2
  iapply (Entails.of_eq (congrArg cred (tallyAt_add (barC c) 0 1 1)))
  iapply (cred_add _ _).2
  isplitl [H3] <;> iassumption

/-! ## What one device starts from -/

/-- The hops are among sixteen. -/
theorem ico_range (a : Bool) : Finset.Ico 0 (H a) ⊆ Finset.range 16 := fun h hh => by
  have := H_le a; rw [Finset.mem_Ico] at hh; exact Finset.mem_range.mpr (by omega)
/-- So are the credits. -/
theorem ico_range' (a : Bool) : Finset.Ico 0 (C a) ⊆ Finset.range 16 := fun h hh => by
  have := H_le a; have : C a = H a - 3 := rfl; rw [Finset.mem_Ico] at hh; exact Finset.mem_range.mpr (by omega)

/-- Of sixteen, those of the hops. -/
theorem to_hops (a : Bool) (Φ : ℕ → sProp 𝕄) : bigSep (Finset.range 16) Φ ⊢ iprop(bigSep (Finset.Ico 0 (H a)) Φ) := bigSep_subset (ico_range a)
/-- Of sixteen, those of the credits. -/
theorem to_credits (a : Bool) (Φ : ℕ → sProp 𝕄) : bigSep (Finset.range 16) Φ ⊢ iprop(bigSep (Finset.Ico 0 (C a)) Φ) := bigSep_subset (ico_range' a)
/-- Of sixteen, the first. -/
theorem to_first (Φ : ℕ → sProp 𝕄) : bigSep (Finset.range 16) Φ ⊢ iprop(Φ 0) := bigSep_elim (show 0 ∈ Finset.range 16 by decide)

/-- A product over four, written out. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- One direction's duties, kind by kind. -/
theorem payA_open (a : Bool) (c : Dev nD) : payA (F := F) a c ⊢ iprop(
    (bigSep (Finset.range 16) fun h => dutyTok ER (rcvC a (up a c) (sl h)) (h / 3) 0)
    ∗ (bigSep (Finset.range 16) fun h => dutyTok ER (sndC a c (sl h)) (h / 3) 0)
    ∗ (bigSep (Finset.range 16) fun h => dutyTok ER (crdC a (dn a c)) 0 h)
    ∗ (bigSep (Finset.range 16) fun h => dutyTok ER (barC (dn a c)) 0 (bd a + 2 * h))) := by
  unfold payA
  rw [four]
  exact BI.Entails.refl _

/-- One direction's means of sending and giving credits. -/
theorem pay_dir (a : Bool) (c : Dev nD) : iprop(payA (F := F) a c ∗ slotA a c)
    ⊢ iprop(sends a c 0 ∗ creditsOut a c 0 ∗ (bigSep (Finset.Ico 0 (H a)) fun h => readerAt ES (c, a, h) 0) ∗ dutyTok ER (barC (dn a c)) 0 (bd a)) := by
  unfold slotA sends creditsOut
  rw [bigSep_sep', bigSep_sep']
  iintro ⟨HP, HR, HW⟩
  ihave HP := (payA_open a c) $$ HP
  icases HP with ⟨H1, H2, H3, H4⟩
  isplitl [H1 H2 HW]
  · isplitl [H2]; · iapply (to_hops a _) $$ H2
    isplitl [H1]; · iapply (to_hops a _) $$ H1
    iapply (to_hops a _) $$ HW
  isplitl [H3]; · iapply (to_credits a _) $$ H3
  isplitl [HR]; · iapply (to_hops a _) $$ HR
  iapply (to_first fun h => dutyTok ER (barC (dn a c)) 0 (bd a + 2 * h)) $$ H4

/-- A device's positions, direction by direction. -/
theorem pos_open (c : Dev nD) : Pos (F := F) c ⊢ iprop(atPos ER (barC c) 0 ∅ 0 ∗ dirSems (fun s => atPos ER ((c : Thread nD τ), s) 0 ∅ 0) true
    ∗ dirSems (fun s => atPos ER ((c : Thread nD τ), s) 0 ∅ 0) false) := by
  unfold Pos
  have e := fifteen_last (F := F) fun s => atPos ER ((c : Thread nD τ), s) 0 ∅ 0
  exact (Entails.of_eq e).trans (BI.sep_mono_r (fourteen_sort fun s => atPos ER ((c : Thread nD τ), s) 0 ∅ 0))

/-- A product over the two directions. -/
theorem bools (Φ : Bool → sProp 𝕄) : bigSep Finset.univ Φ = iprop(Φ true ∗ Φ false) :=
  bigSep_univ_eq_bigSepL [true, false] (by decide) (by decide) Φ

/-- All that one direction is given. -/
theorem deal_dir (a : Bool) (c : Dev nD) : iprop(dirSems (fun s => atPos ER ((c : Thread nD τ), s) 0 ∅ 0) a ∗ (payA (F := F) a c ∗ slotA a c)
      ∗ recvs a c 0 ∗ bigSep (Finset.Ico 0 (C a)) fun i => cred (tallyAt (crdC a c) i 1)) ⊢ Deal a c := by
  unfold Deal dirSems
  iintro ⟨⟨H1, H2, H3⟩, Hp, Hr, Hc⟩
  ihave Hp := (pay_dir a c) $$ Hp
  icases Hp with ⟨Hs, Ho, Hre, Hb⟩
  isplitl [H1]; · iexact H1
  isplitl [H2]; · iexact H2
  isplitl [H3]; · iexact H3
  isplitl [Hr]; · iexact Hr
  isplitl [Hs]; · iexact Hs
  isplitl [Hc]; · iexact Hc
  isplitl [Ho]; · iexact Ho
  isplitl [Hre] <;> iassumption

/-- Device `c`'s part of the protocol at the start. -/
def start (c : Dev nD) : sProp 𝕄 :=
  iprop(Know xb ∗ Deal true c ∗ Deal false c ∗ atPos ER (barC c) 0 ∅ 0 ∗ cred (tallyAt (barC c) 0 2))

/-- All that a device is given. -/
theorem start_of (c : Dev nD) : iprop(levAts L lv ∗ Pipeline.launchCred O₀ c ∗ G' xb c) ⊢ start (F := F) xb c := by
  unfold start G' Known0 Pay Know Levels
  rw [bools]
  iintro ⟨Hl, Hc, HI, ⟨HS, HR⟩, Hpos, Hp1, Hp2⟩
  ihave Hc := (creds c) $$ Hc
  icases Hc with ⟨Hc1, Hc2, Hcb⟩
  ihave Hpos := (pos_open c) $$ Hpos
  icases Hpos with ⟨Hb, Ha1, Ha2⟩
  isplitl [Hl HI HS HR]
  · isplitl [HI]; · iexact HI
    isplitl [HS]; · iexact HS
    isplitl [HR] <;> iassumption
  isplitl [Ha1 Hp1 Hc1]
  · iapply (deal_dir true c)
    isplitl [Ha1]; · iexact Ha1
    isplitl [Hp1] <;> iassumption
  isplitl [Ha2 Hp2 Hc2]
  · iapply (deal_dir false c)
    isplitl [Ha2]; · iexact Ha2
    isplitl [Hp2] <;> iassumption
  isplitl [Hb] <;> iassumption

/-- All of a device's semaphores at zero, as the launch counts them. -/
theorem zeros_back (c : Dev nD) : AllZero (F := F) c
    ⊢ iprop(semVal (barC c) 0 ∗ bigSep Finset.univ fun i : Fin 14 => semVal ((c : Thread nD τ), osem i) 0) := by
  unfold AllZero zeros
  iintro ⟨⟨a1, a2, a3⟩, ⟨b1, b2, b3⟩, Hb⟩
  isplitl [Hb]; · iexact Hb
  iapply (fourteen_unsort fun s => semVal ((c : Thread nD τ), s) 0)
  unfold dirSems
  isplitl [a1 a2 a3]
  · isplitl [a2]; · iexact a2
    isplitl [a1] <;> iassumption
  isplitl [b2]; · iexact b2
  isplitl [b1] <;> iassumption

end Cert.Ring

end
-- ==== Proof.BodyEq.lean ====
/-
# The kernel's body is the ring's program
-/
module

public import proofs.«01_k».proof.Proof.Prog

@[expose] public section

noncomputable section

namespace Cert.Ring

open Cert.KernelIdeal Cert.KernelIdeal.Gen
open Idealize.ShloMosaic Idealize.ShloMosaic.TcCoe Idealize.SL.Sem

variable {F : FTy → Type} [FloatOps F]

set_option maxHeartbeats 4000000 in
set_option maxRecDepth 65536 in
/-- The kernel's body is the ring's program, operation by operation. -/
theorem body_eq : cc0_body (F := F) xM (Memref.isWhole_whole _) wM (Memref.isWhole_whole _) oM (Memref.isWhole_whole _)
    (Memref.whole cc0_scratch0) (Memref.isWhole_whole _) (Memref.whole cc0_scratch1) (Memref.isWhole_whole _)
    cc0_scratch2 cc0_scratch3 cc0_scratch4 cc0_scratch5 cc0_scratch6 cc0_scratch7
    = (do let c : Dev nD ← Prog.lift .deviceId; prog c) := by
  simp only [cc0_body_eq_skeleton]
  unfold cc0_body_skel
  simp only [k0_part45_eq_skeleton]
  unfold k0_part45_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton,
    k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton,
    k0_part36_eq_skeleton, k0_part37_eq_skeleton, k0_part38_eq_skeleton, k0_part39_eq_skeleton, k0_part40_eq_skeleton,
    k0_part41_eq_skeleton, k0_part42_eq_skeleton, k0_part43_eq_skeleton, k0_part44_eq_skeleton]
  simp only [k0_part1_skel, k0_part2_skel, k0_part3_skel, k0_part4_skel, k0_part5_skel, k0_part6_skel, k0_part7_skel,
    k0_part8_skel, k0_part9_skel, k0_part10_skel, k0_part11_skel, k0_part12_skel, k0_part13_skel, k0_part14_skel,
    k0_part15_skel, k0_part16_skel, k0_part17_skel, k0_part18_skel, k0_part19_skel, k0_part20_skel, k0_part21_skel,
    k0_part22_skel, k0_part23_skel, k0_part24_skel, k0_part25_skel, k0_part26_skel, k0_part27_skel, k0_part28_skel,
    k0_part29_skel, k0_part30_skel, k0_part31_skel, k0_part32_skel, k0_part33_skel, k0_part34_skel, k0_part35_skel,
    k0_part36_skel, k0_part37_skel, k0_part38_skel, k0_part39_skel, k0_part40_skel, k0_part41_skel, k0_part42_skel,
    k0_part43_skel, k0_part44_skel]
  simp only [semSignalWord, semWaitWord, Prog.lift, Prog.bind_op, Prog.bind_ret, Prog.pure_eq_ret, Prog.bind_assoc]
  simp (decide := true) only [prog, steps, step, forward, retire, dot, send, ownDot, semSignalWord, semWaitWord, Prog.lift, Prog.bind_op, Prog.bind_ret, Prog.pure_eq_ret, Prog.bind_assoc, H, Nat.reduceAdd, Nat.reduceLT, Nat.reduceLeDiff, if_true, if_false, and_true, and_false, true_and, false_and, dif_pos, dif_neg, not_false_eq_true, ite_true, ite_false, dite_true, dite_false]
  rfl

end Cert.Ring

end
-- ==== Proof.Point.lean ====
/-
# The kernel at its one point

The launch runs the kernel once on every device, on staged copies of its blocks: what it is handed (`bodyPre`), what it
leaves (`bodyPost`), and the contents of the result block.
-/
module

public import proofs.«01_k».proof.Proof.Deal
public import proofs.«01_k».proof.Proof.BodyEq
public import proofs.«01_k».proof.Proof.Gen.KernelIdeal.Points

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

/-! ## The full result block -/

section Full
variable (xb : Dev nD → S128x4096.Idx → Elt F .f32) (wb : Dev nD → S4096x256.Idx → Elt F .f32)

/-- Whose rows a position of the result block lies in. -/
def rowDev (i : S4096x256.Idx) : Dev nD := ⟨(i 0).val / 128, by have : (i 0).val < 4096 := (i 0).isLt; show _ < 32; omega⟩

/-- Where in those rows. -/
def inRow (i : S4096x256.Idx) : S128x256.Idx := fun a => match a with
  | ⟨0, _⟩ => ⟨(i 0).val % 128, Nat.mod_lt _ (by decide)⟩
  | ⟨1, _⟩ => ⟨(i 1).val, (i 1).isLt⟩

/-- The result block of device `c`. -/
def outAt (c : Dev nD) : S4096x256.Idx → Elt F .f32 := fun i => blk xb wb c (rowDev i) (inRow i)

/-- A position of the result is a row of some device's rows. -/
theorem row_place (i : S4096x256.Idx) : (rowR (rowDev i)).emb (inRow i) = i := by
  funext a
  fin_cases a
  · refine Fin.ext ?_
    show 128 * ((i 0).val / 128) + 1 * ((i 0).val % 128) = (i 0).val
    omega
  · refine Fin.ext ?_
    show 0 + 1 * (i 1).val = (i 1).val
    omega

/-- The result is known once all devices' rows are. -/
theorem out_read (c : Dev nD) (f : Buf (Elt F) (oM.view.loc (c : Thread nD τ))) (h : ∀ d, True → (oM.access (rowR d)).read (Elt F) f = blk xb wb c d) :
    f = outAt xb wb c := by
  funext i
  have e := congrFun (h (rowDev i) trivial) (inRow i)
  have e' : (oM.access (rowR (rowDev i))).read (Elt F) f (inRow i) = f ((rowR (rowDev i)).emb (inRow i)) := rfl
  rw [e', row_place] at e
  exact e

/-- When all rows are stored the whole result is held. -/
theorem out_full (c : Dev nD) : outSt xb wb c (fun _ => True)
    ⊢ (oM.view.loc (c : Thread nD τ) ↦[Finset.univ]{fullShare} (outAt xb wb c : Buf (Elt F) (oM.view.loc (c : Thread nD τ))) : sProp 𝕄) := by
  unfold outSt
  iintro ⟨%f, %hf, H⟩
  ihave H' := (Entails.of_eq (congrArg (fun g : Buf (Elt F) (oM.view.loc (c : Thread nD τ)) =>
    (oM.view.loc (c : Thread nD τ) ↦[Finset.univ]{fullShare} g : sProp 𝕄)) (out_read xb wb c f hf))) $$ H
  iexact H'

end Full

/-! ## The kernel's one point -/

variable (m : (ℓ : Loc nD τ sig) → Buf (Elt F) ℓ) (ρ : Dev nD → PrngReg)

/-- The initial memory, every counter at zero. -/
def s₀ : MemSt nD τ sig (Elt F) := ⟨m, fun _ => 0, ρ⟩

/-- Device `c`'s rows of the first operand, and its columns of the second. -/
def xstg (c : Dev nD) : S128x4096.Idx → Elt F .f32 := (win0_0.blk (0 : Fin 1)).view.read (Elt F) ((s₀ m ρ).mem ((c : Thread nD τ).loc main_arg0))
def wstg (c : Dev nD) : S4096x256.Idx → Elt F .f32 := (win0_1.blk (0 : Fin 1)).view.read (Elt F) ((s₀ m ρ).mem ((c : Thread nD τ).loc main_arg1))

def Φ₀ (c : Dev nD) : sProp 𝕄 := iprop(start (xstg m ρ) c ∗ scrAny true c ∗ scrAny false c)
def Φ₁ (c : Dev nD) : sProp 𝕄 := iprop(AllZero (F := F) c ∗ scrAny true c ∗ scrAny false c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt (xstg m ρ) (wstg m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A staging buffer holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

abbrev t₀ : Fin cfg0.N := t0_0

def bodyPre (c : Dev nD) : sProp 𝕄 :=
  iprop(Φ₀ m ρ c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt 0 t₀.succ ∗ stg c cc0_stg0_0 (xstg m ρ c) ∗ stg c cc0_stg1_0 (wstg m ρ c)
    ∗ stg c cc0_stg2_0 (outAt (xstg m ρ) (wstg m ρ) c))

/-- The first operand's window is filled before the body. -/
theorem before_x (c : Dev nD) (d) : (dats m ρ 0 c).before (0 : Fin 3) t₀ d = xstg m ρ c := by
  unfold Dat.before; rw [if_pos (fetch0_0 t₀)]; rfl
/-- So is the second's. -/
theorem before_w (c : Dev nD) (d) : (dats m ρ 0 c).before (1 : Fin 3) t₀ d = wstg m ρ c := by
  unfold Dat.before; rw [if_pos (fetch0_1 t₀)]; rfl

/-- What is owed before the body. -/
theorem owes_before (c : Dev nD) : (dats m ρ 0 c).owesAt 0 t₀.castSucc ⊢ owesE (F := F) c (O₀ c) := by
  unfold Dat.owesAt Pipeline.owesWithin owesE
  rw [show (dats m ρ 0 c).owed t₀.castSucc = O₀ c from rfl]
  iintro ⟨%W, -, HO⟩
  iexists W; iexact HO

/-- Nothing is owed after it. -/
theorem owes_after (c : Dev nD) : owesE (F := F) c 0 ⊢ (dats m ρ 0 c).owesAt 0 t₀.succ := by
  unfold Dat.owesAt Pipeline.owesWithin owesE
  rw [show (dats m ρ 0 c).owed t₀.succ = 0 from rfl]
  iintro ⟨%W, HO⟩
  iexists W
  isplitr; · ipureintro; exact fun _ _ => Or.inl trivial
  iexact HO

/-- A window held whole. -/
theorem owns_stg (c : Dev nD) (b : Ref sig .tc) (X : b.ty.Contents (Elt F)) :
    (owns (c : Thread nD τ) (Memref.whole b) fullShare X : sProp 𝕄) = stg c b X := by
  unfold owns; simp only [Memref.view_whole, View.read_whole, View.set_whole]

/-- The second operand's window, given to the body. -/
theorem stg_w (c : Dev nD) : stg c cc0_stg1_0 (wstg m ρ c) ⊢ wSt (wstg m ρ) c := by
  unfold wSt
  iintro ⟨%f, %hf, H⟩
  subst hf
  iexact H
/-- And taken back. -/
theorem w_stg (c : Dev nD) : wSt (wstg m ρ) c ⊢ stg c cc0_stg1_0 (wstg m ρ c) := by
  unfold wSt
  iintro H
  iexists _
  isplitr; · ipureintro; rfl
  iexact H

/-- The result's window, none of its rows stored. -/
theorem stg_out (c : Dev nD) (X) : stg c cc0_stg2_0 X ⊢ outSt (xstg m ρ) (wstg m ρ) c (fun _ => False) := by
  unfold outSt
  iintro ⟨%f, -, H⟩
  iexists f
  isplitr; · ipureintro; exact fun _ h => h.elim
  iexact H
/-- The result's window, all of its rows stored. -/
theorem out_stg (c : Dev nD) : outSt (xstg m ρ) (wstg m ρ) c (fun _ => True) ⊢ stg c cc0_stg2_0 (outAt (xstg m ρ) (wstg m ρ) c) := by
  iintro H
  ihave H := (out_full (xstg m ρ) (wstg m ρ) c) $$ H
  iexists _
  isplitr; · ipureintro; rfl
  iexact H

/-- What the launch gives is what the body begins with. -/
theorem pre_begin (c : Dev nD) : bodyPre m ρ c ⊢ iprop(Know (xstg m ρ) ∗ Begin (xstg m ρ) (wstg m ρ) c) := by
  unfold bodyPre Φ₀ start Begin
  iintro ⟨⟨⟨HK, Hd1, Hd2, Hb, Hc⟩, Hs1, Hs2⟩, HO, ⟨%d0, Hx⟩, ⟨%d1, Hw⟩, ⟨%d2, Ho⟩⟩
  rw [before_x, before_w]
  ihave HO := (owes_before m ρ c) $$ HO
  ihave Hx := (Entails.of_eq (owns_stg c cc0_stg0_0 (xstg m ρ c)).symm) $$ Hx
  ihave Hw := (stg_w m ρ c) $$ Hw
  ihave Ho := (stg_out m ρ c _) $$ Ho
  isplitl [HK]; · iexact HK
  isplitl [Hd1]; · iexact Hd1
  isplitl [Hd2]; · iexact Hd2
  isplitl [Hb Hc]
  · isplitl [Hb] <;> iassumption
  isplitl [Hs1 Hs2]
  · isplitl [Hs1] <;> iassumption
  isplitl [Hx]; · iexact Hx
  isplitl [Hw]; · iexact Hw
  isplitl [Ho] <;> iassumption

/-- What the body ends with is what the launch wants. -/
theorem end_post (c : Dev nD) : End (xstg m ρ) (wstg m ρ) c ⊢ bodyPost m ρ c := by
  unfold bodyPost Φ₁ End
  iintro ⟨Hz, Hs, Hx, Hw, Ho, HO⟩
  ihave HO := (owes_after m ρ c) $$ HO
  ihave Hx := (Entails.of_eq (owns_stg c cc0_stg0_0 (xstg m ρ c))) $$ Hx
  ihave Hw := (w_stg m ρ c) $$ Hw
  ihave Ho := (out_stg m ρ c) $$ Ho
  isplitl [Hz Hs]
  · isplitl [Hz] <;> iassumption
  isplitl [HO]; · iexact HO
  isplitl [Hx]; · iexact Hx
  isplitl [Hw] <;> iassumption

/-- The same program under another name, with a consequence drawn. -/
theorem wp_conseq (c : Dev nD) (p p' : KProg F) (hp : p' = p) (A B P Q : sProp 𝕄) (h : A ⊢ WP c p B) (hP : P ⊢ A) (hQ : B ⊢ Q) : P ⊢ WP c p' Q := by
  subst hp
  exact WP_mono c p' P A Q B hP h hQ

/-- A program that first asks which device it runs on. -/
theorem wp_device (c : Dev nD) (P Q : sProp 𝕄) (p : Dev nD → KProg F) (h : P ⊢ WP c (p c) Q) :
    P ⊢ WP c (do let d : Dev nD ← Prog.lift .deviceId; p d) Q := by
  unfold WP at h ⊢
  simp only [Prog.lift, Prog.bind_op, Prog.bind_ret]
  rw [wp_deviceId]
  exact h

/-- The kernel's body on its staged blocks. -/
@[irreducible] def kern : KProg F := cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    cc0_scratch2 cc0_scratch3 cc0_scratch4 cc0_scratch5 cc0_scratch6 cc0_scratch7

/-- The kernel asks which device it runs on and then runs its steps. -/
theorem kern_eq : kern (F := F) = (do let c : Dev nD ← Prog.lift .deviceId; prog c) := by
  unfold kern
  exact body_eq

/-- The kernel at its one point. -/
theorem wp_point (c : Dev nD) : bodyPre m ρ c ⊢ WP c kern (bodyPost m ρ c) := by
  have h := wp_device c _ _ prog (wp_body (xstg m ρ) (wstg m ρ) c)
  exact wp_conseq c _ _ kern_eq _ _ _ _ h (pre_begin m ρ c) (end_post m ρ c)

/-- The call of the pallas_call's body at its one point is the kernel. -/
theorem kern_call : defs₀ (F := F) Proc.tc 0 (t0_0, cfg0.slots t0_0) = kern := by
  unfold kern
  rfl

/-- Before the point, the kernel's resources are the pipeline's. -/
theorem phi_before (c : Dev nD) : (dats m ρ 0 c).Φ t0_0.castSucc = Φ₀ m ρ c := rfl
/-- What is held after the body. -/
theorem phi_after (c : Dev nD) : (dats m ρ 0 c).Φ t0_0.succ = Φ₁ c := rfl

/-- The body does what the launch asks of it. -/
theorem body_obligation (c : Dev nD) : BodyObligation (dats (F := F) m ρ 0 c) (defs₀ (F := F)) 𝒱₀ 0 Set.univ := fun t => by
  have h := wp_point m ρ c
  rw [fin_N0 t]
  rw [bigSep_W0, bigSep_W0]
  simp only [owns_whole_eq]
  rw [kern_call, phi_before, phi_after]
  exact h

end Cert.Ring

end
-- ==== Proof.Run.lean ====
/-
# The whole run

The launch: the ghost state made once for the mesh, every semaphore handed over at zero, the kernel run on every device, and
every semaphore given back at zero.
-/
module

public import proofs.«01_k».proof.Proof.Point
public import proofs.«01_k».proof.Proof.Gen.KernelIdeal.Launch
public import proofs.«01_k».proof.Proof.Gen.KernelIdeal.Frame
public import Idealize.ShloMosaic.Lib.Pipeline.CollectiveSegs
public import Idealize.ShloMosaic.Adequacy
public import Idealize.ShloMosaic.Init

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The call's own semaphores are the fourteen. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- The ghost state the launch makes. -/
def u₀ : UU := (initOf (Pipeline.cells cfgs cellOf_inj) (Pipeline.launchToks cfgs cellOf_inj), (initOf allCells allToks, initSlots keys 1))

/-- The protocol's ghost state in its two parts. -/
theorem rings_split : BI.own ((embR (A := UR sig nD τ) (B := UB) : Emb UB 𝕄) (initOf allCells allToks, initSlots keys 1))
    ⊢ iprop(BI.own (ER (F := F) (initOf allCells allToks)) ∗ BI.own (ES (F := F) (initSlots keys 1))) := by
  unfold ER ES
  exact own_pair_emb _ _ _

/-- It deals every device its part. -/
theorem fund : (ownU u₀ : sProp 𝕄) ⊢ |={Set.univ}=> iprop(BI.own (EP (initOf (Pipeline.cells cfgs cellOf_inj) (Pipeline.launchToks cfgs cellOf_inj)))
    ∗ bigSep Finset.univ (G (xstg m ρ))) := by
  unfold u₀
  iintro Hu
  ihave H := (ownU_pair _ _) $$ Hu
  icases H with ⟨HP, HX⟩
  ihave HX := (rings_split (F := F)) $$ HX
  imod (fund_all (xstg m ρ)) $$ HX with HG
  imodintro
  isplitl [HP] <;> iassumption

/-- The call's counters, as the first fourteen cells. -/
theorem ownSems0_eq (c : Dev nD) : (Pipeline.ownSems0 (Ix := ℕ) (Name := ℕ) (U := UU) (Lvl := ℕ) (Val := Elt F) (τ := τ) osem c : sProp 𝕄)
    = bigSep Finset.univ fun i : Fin 14 => semVal (kcell (c, i.castSucc)) 0 := rfl

/-- The call's counters, one by one. -/
theorem ownSems0_eq' (c : Dev nD) : (Pipeline.ownSems0 (Ix := ℕ) (Name := ℕ) (U := UU) (Lvl := ℕ) (Val := Elt F) (τ := τ) osem c : sProp 𝕄)
    = bigSep Finset.univ fun i : Fin 14 => semVal ((c : Thread nD τ), osem i) 0 := rfl

/-- The one counter outside the call is the barrier. -/
theorem unscopedSems0_eq (c : Dev nD) : (unscopedSems0 c : sProp 𝕄) = semVal (barC c) 0 := by
  unfold unscopedSems0; rw [bigSep_eq_bigSepL_of_eq [SemLoc.reg barS] (by decide) (by decide)]; rfl

/-- What a device starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xstg m ρ) c)
      ⊢ |={Set.univ}=> iprop(start (xstg m ρ) c ∗ emp) := by
  iintro ⟨-, Hl, Hc, -, HG⟩
  imodintro
  isplitl
  · iapply (start_of (xstg m ρ) c)
    isplitl [Hl]; · iexact Hl
    isplitl [Hc] <;> iassumption
  · iempintro

/-- What is held before the body. -/
theorem phi0_intro (c : Dev nD) :
    iprop(start (xstg m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrAny
  iintro ⟨Hs, -, H1, H2⟩
  isplitl [Hs]; · iexact Hs
  isplitl [H1]; · iexact H1
  iexact H2

/-- What the body leaves. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq', unscopedSems0_eq]
  unfold Φ₁ scrAny
  iintro ⟨Hz, H1, H2⟩
  ihave Hz := (zeros_back c) $$ Hz
  icases Hz with ⟨Hb, Ho⟩
  isplitl [Hb]; · iexact Hb
  isplitl [Ho]; · iexact Ho
  isplitl [H1]; · iexact H1
  iexact H2

/-- The pipeline's own waits come before all that is owed. -/
theorem stage_level (c : Dev nD) (w : Fin cfg0.W) (s) : lv ((c : Thread nD τ), .dma ((cfg0.win w).sem s)) 0 = 0 := by
  unfold lv
  fin_cases w <;> fin_cases s <;> rfl

/-- What is owed comes after level 0. -/
theorem owed_above (c : Dev nD) (t : Fin (cfg0.N + 1)) : Above 0 ((dats m ρ 0 c).owed t) := by
  rcases t with ⟨_ | _, ht⟩
  · exact above_O₀ c
  · exact above_zero 0

/-- The launch's own waits are allowed. -/
theorem waits (c : Dev nD) : (levAts L lv : sProp 𝕄) ⊢ Pipeline.cellsWaits cfgs (dats m ρ) 0 0 c :=
  Pipeline.cellsWaits_intro cfgs (dats m ρ) 0 0 c fun w s t =>
    mayWait c _ 0 _ (by decide) (by rw [stage_level]; exact owed_above m ρ c _)

/-- All devices' counters become cells at once. -/
theorem glob_run : (bigSep Finset.univ fun c => iprop(Pipeline.ownSems0 (Ix := ℕ) (Name := ℕ) (U := UU) (Lvl := ℕ) (Val := Elt F) (τ := τ) osem c
      ∗ unscopedSems0 c ∗ G (xstg m ρ) c) : sProp 𝕄) ⊢ |={Set.univ}=> bigSep Finset.univ (G' (xstg m ρ)) :=
  glob (xstg m ρ) _ _ ownSems0_eq unscopedSems0_eq

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with every counter at zero, for any float values: every weakly fair run of the program on the mesh ends,
    with each device's result array at the computed contents, the operands as they were and every counter at zero. -/
theorem run_main : θ_run defs (onTc (τ := τ) (main (F := F))) (s₀ m ρ) (fun r => QC m ρ r ∧ r.2.sem = fun _ => 0) :=
  by
  refine Pipeline.θ_run_region_owing_glob_pf (fun p => (cfgs p).toPCfg) (fun p => (cfgs p).toPCfg_adm) (dats m ρ) (0 : ℕ) cellOf_inj (0 : Fin 1)
        winFacts0.to₀ ownSemFacts (Pipeline.PreFacts.none _) EP defs₀ 𝒱₀ m ρ main
        (hmain := ?hmain)
        (hbody := ?hbody) (hne := fun w => by fin_cases w <;> exact Nat.succ_pos _) (harr := arr_whole0) (hstage := stage_whole0)
        (hshare := share_eq m ρ) (hdistinct := winFacts0.arr_inj)
        (O₀ := O₀) (howed₀ := ?howed₀) (howedN := ?howedN)
        (L := L) (lv := lv) (hL := L_of_ne) (hwaits := ?hwaits)
        (G := G (xstg m ρ)) (G' := G' (xstg m ρ)) (u₀ := u₀)
        (hu₀ := ?hu₀)
        (hglob := ?hglob)
        (hA := ?hA) (hpf := fun _ k => k.elim0)
        (X := start (xstg m ρ)) (Y := fun c => unscopedSems0 c) (Z := fun _ => iprop(emp))
        (hX := ?hX) (hin := ?hin) (hout := ?hout)
        (QY := fun c s => ∀ sm : SemLoc sig, sm.isScoped .tc = false → s.sem ((c.tc : Thread nD τ), sm) = 0)
        (hY := ?hY)
        (hQ := fun _ h hs => ⟨fun c w => (h c).1 w, sem_eq_zero hs fun c => (h c).2.2⟩)
  case hmain => exact fun _ => rfl
  case hbody => exact fun c => (body_obligation m ρ c).loose
  case howed₀ => exact fun _ => rfl
  case howedN => exact fun _ => rfl
  case hwaits => exact waits m ρ
  case hu₀ => exact fund m ρ
  case hglob => exact glob_run m ρ
  case hA => exact fun _ _ => rfl
  case hX => exact start_intro m ρ
  case hin => exact phi0_intro m ρ
  case hout => exact phi1_exit m ρ
  case hY =>
    intro c s'
    iintro ⟨Hu, -, HSI⟩
    iapply (Pipeline.unscopedSems0_read (X := unscopedSems0 c) (c := c) fupd_intro s')
    isplitl [Hu] <;> iassumption

/-- The operands hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
/-- The second operand is unchanged. -/
theorem finalA_w (c : Dev nD) : finalA m ρ c (1 : Fin 3) = (s₀ m ρ).mem (win0_1.arr.view.loc (c : Thread nD τ)) :=
  (dats (F := F) m ρ 0 c).arrAt_in (1 : Fin 3) rfl _

/-- The run with the result's values dropped. -/
theorem run_kept : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono
    (fun _ h => ⟨fun c => ⟨(h.1 c (0 : Fin 3)).trans (finalA_x m ρ c), (h.1 c (1 : Fin 3)).trans (finalA_w m ρ c)⟩, h.2⟩)
    (run_main m ρ)

end Cert.Ring

end
-- ==== Proof.Value.lean ====
/-
# What the result array holds

Over the reals, device `c`'s result array holds the product of all the rows of the first operand with device `c`'s columns of
the second: at row `i` and column `j` the sum over `k` of `x(i, k) * w(k, j)`.
-/
module

public import proofs.«01_k».proof.Proof.Run
public import Idealize.ShloMosaic.PureOps.Ideal
public import Idealize.ShloMosaic.Lib.MatmulPlain
public import Idealize.ShloMosaic.Lib.StackMember
public import Idealize.ShloMosaic.Lib.Layout

@[expose] public section

noncomputable section

namespace Cert.Ring

open Cert.KernelIdeal Cert.KernelIdeal.Gen
open Idealize.ShloMosaic Idealize.ShloMosaic.TcCoe
open Idealize.SL.Sem
open Idealize.ShloMosaic.ValueIdx Idealize.ShloMosaic.StackMember
open Idealize.ShloMosaic.Pipeline (Dat Cfg Window)

variable {F : FTy → Type} [FloatOps F]

variable (m : (ℓ : Loc nD τ sig) → Buf (Elt F) ℓ) (ρ : Dev nD → PrngReg)

/-! ## The windows are the arrays -/

/-- The first operand's window is the array. -/
theorem read_x (f : main_arg0.ty.Contents (Elt F)) : (win0_0.blk (0 : Fin 1)).view.read (Elt F) f = f :=
  Memref.read_access_unit_zero (Elt F) main_arg0 (by funext a; fin_cases a <;> rfl) (fun a => by fin_cases a <;> decide) f
/-- The second operand's window is the array. -/
theorem read_w (f : main_arg1.ty.Contents (Elt F)) : (win0_1.blk (0 : Fin 1)).view.read (Elt F) f = f :=
  Memref.read_access_unit_zero (Elt F) main_arg1 (by funext a; fin_cases a <;> rfl) (fun a => by fin_cases a <;> decide) f
/-- The result's window is the array. -/
theorem read_out (f : main_v1.ty.Contents (Elt F)) : (win0_2.blk (0 : Fin 1)).view.read (Elt F) f = f :=
  Memref.read_access_unit_zero (Elt F) main_v1 (by funext a; fin_cases a <;> rfl) (fun a => by fin_cases a <;> decide) f

/-- The body reads the first argument. -/
theorem xstg_eq (c : Dev nD) : xstg m ρ c = m ((c : Thread nD τ).loc main_arg0) := read_x _
/-- The body reads the second argument. -/
theorem wstg_eq (c : Dev nD) : wstg m ρ c = m ((c : Thread nD τ).loc main_arg1) := read_w _

/-- The result array after the run. -/
theorem finalA_out (c : Dev nD) : finalA m ρ c (2 : Fin 3) = outAt (xstg m ρ) (wstg m ρ) c := by
  refine (read_out (F := F) _).symm.trans ?_
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

/-! ## One block over the reals -/

/-- One block: device `d`'s rows times device `c`'s columns. -/
theorem blk_apply (xb : Dev nD → FVec Ideal S128x4096 .f32) (wb : Dev nD → FVec Ideal S4096x256 .f32) (c d : Dev nD) (r : Fin 128) (j : Fin 256) :
    (blk (F := Ideal) xb wb c d : FVec Ideal S128x256 .f32) (ix2 r j) = ∑ k : Fin 4096, xb d (ix2 r k) * wb c (ix2 k j) := by
  unfold blk k0_pay2
  simp only [shapeCast_self]
  refine (Ideal.matmul_plain_apply (φ₁ := .f32) (φ₂ := .f32) none (xb d) (wb c) (constant S128x256 .f32 0x00000000#32) r j).trans ?_
  show Ideal.ofBits .f32 0x00000000#32 + _ = _
  rw [Ideal.ofBits_zero_f32, zero_add]

/-- The row, in its device's rows, of a position of the result. -/
theorem inRow_eq (i : S4096x256.Idx) : inRow i = ix2 (⟨(i 0).val % 128, Nat.mod_lt _ (by decide)⟩ : Fin 128) (⟨(i 1).val, (i 1).isLt⟩ : Fin 256) := by
  funext a
  fin_cases a <;> rfl

/-! ## The devices' blocks of the whole operands -/

variable (X : (⟨2, ![4096, 4096]⟩ : Shape).Idx → EReal) (W : (⟨2, ![4096, 8192]⟩ : Shape).Idx → EReal)

/-- A device's rows of the whole first operand. -/
theorem x_at (d : Fin 32) (r : Fin 128) (k : Fin 4096) :
    Layout.block ⟨2, ![128, 4096]⟩ ⟨2, ![4096, 4096]⟩ 0 32 d X (by decide) (ix2 r k) = X (ix2 (⟨d.val * 128 + r.val, by omega⟩ : Fin 4096) k) :=
  congrArg X (by funext a; fin_cases a <;> rfl)

/-- A device's columns of the whole second operand. -/
theorem w_at (c : Fin 32) (k : Fin 4096) (j : Fin 256) :
    Layout.block ⟨2, ![4096, 256]⟩ ⟨2, ![4096, 8192]⟩ 1 32 c W (by decide) (ix2 k j) = W (ix2 k (⟨c.val * 256 + j.val, by omega⟩ : Fin 8192)) :=
  congrArg W (by funext a; fin_cases a <;> rfl)

/-- The whole product, at a position of device `c`'s block of it. -/
theorem whole_at (c : Fin 32) (i : S4096x256.Idx) :
    Layout.block ⟨2, ![4096, 256]⟩ ⟨2, ![4096, 8192]⟩ 1 32 c (Host.dotGeneral (F := Ideal) (φ₁ := .f32) (φ₂ := .f32) (DotDims.plain 4096 4096 8192) none X W) (by decide) i
      = ∑ k : Fin 4096, X (ix2 (⟨(i 0).val, (i 0).isLt⟩ : Fin 4096) k) * W (ix2 k (⟨c.val * 256 + (i 1).val, by have : (i 1).val < 256 := (i 1).isLt; omega⟩ : Fin 8192)) := by
  rw [Layout.block_apply, ← dotGeneral_plain_apply (φ₁ := .f32) (φ₂ := .f32) none X W]
  refine congrArg _ ?_
  funext a; fin_cases a <;> rfl

/-- What the ring computes is device `c`'s block of the whole product. -/
theorem out_block (xb : Dev nD → FVec Ideal S128x4096 .f32) (wb : Dev nD → FVec Ideal S4096x256 .f32) (c : Dev nD)
    (hx : ∀ d : Dev nD, xb d = Layout.block ⟨2, ![128, 4096]⟩ ⟨2, ![4096, 4096]⟩ 0 32 d X (by decide))
    (hw : wb c = Layout.block ⟨2, ![4096, 256]⟩ ⟨2, ![4096, 8192]⟩ 1 32 c W (by decide)) :
    outAt (F := Ideal) xb wb c
      = Layout.block ⟨2, ![4096, 256]⟩ ⟨2, ![4096, 8192]⟩ 1 32 c (Host.dotGeneral (F := Ideal) (φ₁ := .f32) (φ₂ := .f32) (DotDims.plain 4096 4096 8192) none X W) (by decide) := by
  funext i
  rw [whole_at]
  unfold outAt
  rw [inRow_eq]
  refine (blk_apply xb wb c (rowDev i) _ _).trans (Finset.sum_congr rfl fun k _ => ?_)
  rw [hx, hw, x_at, w_at]
  have e : (⟨(rowDev i).val * 128 + (i 0).val % 128, by have := (rowDev i).isLt; have : nD = 32 := rfl; omega⟩ : Fin 4096) = ⟨(i 0).val, (i 0).isLt⟩ :=
    Fin.ext (by show (i 0).val / 128 * 128 + (i 0).val % 128 = (i 0).val; omega)
  rw [e]

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel Cert.Kernel.Gen Cert.KernelIdeal.Gen

/-- The two kernels name the same body. -/
theorem bodies_eq {F : FTy → Type} [FloatOps F] : Cert.Kernel.defs₀ (F := F) = Cert.KernelIdeal.defs₀ (F := F) := by
  refine congrArg Defs.onTc (funext fun ℓ => funext fun x => ?_)
  fin_cases ℓ
  rfl

/-- The two kernels run under the same definitions. -/
theorem defs_eq {F : FTy → Type} [FloatOps F] : Cert.Kernel.defs (F := F) = Cert.KernelIdeal.defs (F := F) :=
  congrArg (Pipeline.defs Cert.KernelIdeal.pcfgs) bodies_eq

/-- The kernel, its values as machine words: it runs, leaves its operands as they were and every counter at zero. -/
theorem frame_kernel : Cert.quiescent_Kernel := fun m ρ _ => by
  rw [defs_eq]
  exact Cert.Ring.run_kept (F := Bits) m ρ

/-- The same over the reals. -/
theorem frame_ideal : Cert.quiescent_KernelIdeal := fun m ρ _ => Cert.Ring.run_kept (F := Ideal) m ρ

/-- The reference runs on the host and has no counter at all. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- Over the reals the kernel's result arrays are the devices' column blocks of the reference's one product. -/
theorem algebraic : Cert.algebraic_KernelIdeal_ReferenceIdeal := by
  intro m g m' g' _ hm
  refine ⟨_, ?_, (θ_run _ _ _).mono (fun r h => h 0) (Cert.ReferenceIdeal.Value.run m' g')⟩
  refine (θ_run _ _ _).mono (fun r h c => ⟨(h.1 c (2 : Fin 3)).trans ?_, (h.1 c (0 : Fin 3)).trans (Cert.Ring.finalA_x m g c),
    (h.1 c (1 : Fin 3)).trans (Cert.Ring.finalA_w m g c)⟩) (Cert.Ring.run_main (F := Ideal) m g)
  refine (Cert.Ring.finalA_out m g c).trans (Cert.Ring.out_block _ _ _ _ c (fun d => ?_) ?_)
  · exact (Cert.Ring.xstg_eq m g d).trans (hm d).1
  · exact (Cert.Ring.wstg_eq m g c).trans (hm c).2

/-- The five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
